-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_nonneg [hPre_scale_nonneg : Cert.Pre_scale_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_nonneg [hPre_scale_nonneg : Cert.Pre_scale_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scale_nonneg [hKernelIdeal : Cert.KernelIdeal.Facts] [hPre_scale_nonneg : Cert.Pre_scale_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scale_nonneg [hReferenceIdeal : Cert.ReferenceIdeal.Facts] [hPre_scale_nonneg : Cert.Pre_scale_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_scale_nonneg [hKernelIdeal : Cert.KernelIdeal.Facts] [hReferenceIdeal : Cert.ReferenceIdeal.Facts] [hPre_scale_nonneg : Cert.Pre_scale_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scale_nonneg : Cert.Pre_scale_nonneg.Facts),
    quiescent_Kernel (hKernel := hKernel)
    ∧ quiescent_KernelIdeal (hKernelIdeal := hKernelIdeal)
    ∧ quiescent_KernelIdeal_pre_scale_nonneg (hKernelIdeal := hKernelIdeal) (hPre_scale_nonneg := hPre_scale_nonneg)
    ∧ quiescent_ReferenceIdeal (hReferenceIdeal := hReferenceIdeal)
    ∧ quiescent_ReferenceIdeal_pre_scale_nonneg (hReferenceIdeal := hReferenceIdeal) (hPre_scale_nonneg := hPre_scale_nonneg)
    ∧ preserves_Kernel_KernelIdeal
    ∧ algebraic_KernelIdeal_ReferenceIdeal_pre_scale_nonneg (hKernelIdeal := hKernelIdeal) (hReferenceIdeal := hReferenceIdeal) (hPre_scale_nonneg := hPre_scale_nonneg)
-- ==== Pre_scale_nonneg.lean ====
abbrev S2x896x24x576 : Shape := ⟨4, ![2, 896, 24, 576]⟩
abbrev S2x896x24 : Shape := ⟨3, ![2, 896, 24]⟩
abbrev S2x896x512 : Shape := ⟨3, ![2, 896, 512]⟩
abbrev S2x896x8 : Shape := ⟨3, ![2, 896, 8]⟩
abbrev S2x896x64 : Shape := ⟨3, ![2, 896, 64]⟩
abbrev S2x896x24x512 : Shape := ⟨4, ![2, 896, 24, 512]⟩
abbrev S2x896 : Shape := ⟨2, ![2, 896]⟩
abbrev S_ : Shape := ⟨0, ![]⟩

class Facts : Prop where
  bcast_S_S2x896 : S_.BroadcastsInDim S2x896 (![] : Fin 0 → Fin S2x896.rank)

variable [Facts]

def fn {F : FTy → Type} [FloatOps F] (main_arg0 : FVec F S2x896x24x576 .fp8e4m3) (main_arg1 : FVec F S2x896x24 .f32) (main_arg2 : FVec F S2x896x512 .fp8e4m3) (main_arg3 : FVec F S2x896x8 .f32) (main_arg4 : FVec F S2x896x64 .bf16) (main_arg5 : FVec F S2x896x24x512 .bf16) (main_arg6 : FVec F S2x896x24 .f32) (main_arg7 : FVec F S2x896x24x512 .fp8e5m2) (main_arg8 : FVec F S2x896 .f32) : IVec S2x896 1 :=
  let main_cst : FVec F S_ .f32 := constant S_ .f32 0x00000000#32
  let main_v0 : FVec F S2x896 .f32 := broadcastInDim S2x896 ![] bcast_S_S2x896 main_cst
  let main_v1 : IVec S2x896 1 := cmpf .oge main_arg8 main_v0
  let main_cst_0 : FVec F S_ .f32 := constant S_ .f32 0x7F800000#32
  let main_v2 : FVec F S2x896 .f32 := broadcastInDim S2x896 ![] bcast_S_S2x896 main_cst_0
  let main_v3 : IVec S2x896 1 := cmpf .olt main_arg8 main_v2
  let main_v4 : IVec S2x896 1 := andi main_v1 main_v3
  main_v4
-- ==== Kernel.lean ====
abbrev S2x896x24x576 : Shape := ⟨4, ![2, 896, 24, 576]⟩
abbrev S2x896x24 : Shape := ⟨3, ![2, 896, 24]⟩
abbrev S2x896x512 : Shape := ⟨3, ![2, 896, 512]⟩
abbrev S2x896x8 : Shape := ⟨3, ![2, 896, 8]⟩
abbrev S2x896x64 : Shape := ⟨3, ![2, 896, 64]⟩
abbrev S2x896x24x512 : Shape := ⟨4, ![2, 896, 24, 512]⟩
abbrev S2x896 : Shape := ⟨2, ![2, 896]⟩
abbrev S2x896x1 : Shape := ⟨3, ![2, 896, 1]⟩
abbrev S2x1x896x24 : Shape := ⟨4, ![2, 1, 896, 24]⟩
abbrev S2x3x896x24 : Shape := ⟨4, ![2, 3, 896, 24]⟩
abbrev S2x3x28x768 : Shape := ⟨4, ![2, 3, 28, 768]⟩
abbrev S2x28x3x768 : Shape := ⟨4, ![2, 28, 3, 768]⟩
abbrev S2x21504x576 : Shape := ⟨3, ![2, 21504, 576]⟩
abbrev S2x21504x512 : Shape := ⟨3, ![2, 21504, 512]⟩
abbrev S1x1x3x768 : Shape := ⟨4, ![1, 1, 3, 768]⟩
abbrev S1x768x576 : Shape := ⟨3, ![1, 768, 576]⟩
abbrev S1x896x512 : Shape := ⟨3, ![1, 896, 512]⟩
abbrev S1x896x8 : Shape := ⟨3, ![1, 896, 8]⟩
abbrev S1x896x64 : Shape := ⟨3, ![1, 896, 64]⟩
abbrev S1x768x512 : Shape := ⟨3, ![1, 768, 512]⟩
abbrev S896x576 : Shape := ⟨2, ![896, 576]⟩
abbrev S576x896 : Shape := ⟨2, ![576, 896]⟩
abbrev S576x768 : Shape := ⟨2, ![576, 768]⟩
abbrev S8x512 : Shape := ⟨2, ![8, 512]⟩
abbrev S896x8 : Shape := ⟨2, ![896, 8]⟩
abbrev S896x512 : Shape := ⟨2, ![896, 512]⟩
abbrev S896x64 : Shape := ⟨2, ![896, 64]⟩
abbrev S768x576 : Shape := ⟨2, ![768, 576]⟩
abbrev S768x512 : Shape := ⟨2, ![768, 512]⟩
abbrev S1x1x1x768 : Shape := ⟨4, ![1, 1, 1, 768]⟩
abbrev S1x768 : Shape := ⟨2, ![1, 768]⟩
abbrev S768x128 : Shape := ⟨2, ![768, 128]⟩
abbrev S128x768 : Shape := ⟨2, ![128, 768]⟩
abbrev S768 : Shape := ⟨1, ![768]⟩
abbrev S128x576 : Shape := ⟨2, ![128, 576]⟩
abbrev S128x512 : Shape := ⟨2, ![128, 512]⟩
abbrev S1x128x512 : Shape := ⟨3, ![1, 128, 512]⟩
abbrev S1x128x64 : Shape := ⟨3, ![1, 128, 64]⟩
abbrev S128x64 : Shape := ⟨2, ![128, 64]⟩
abbrev S768x64 : Shape := ⟨2, ![768, 64]⟩
abbrev S576x128 : Shape := ⟨2, ![576, 128]⟩

abbrev nBuf : Space → Nat
  | .hbm => 23
  | .vmem => 23
  | .smem => 0
  | _ => 0

abbrev bufTy : (tb : Table) → Fin (tcTables nBuf tb) → BufTy
  | .hbm, ⟨0, _⟩ => ⟨S2x896x24x576, .fp8e4m3⟩
  | .hbm, ⟨1, _⟩ => ⟨S2x896x24, .f32⟩
  | .hbm, ⟨2, _⟩ => ⟨S2x896x512, .fp8e4m3⟩
  | .hbm, ⟨3, _⟩ => ⟨S2x896x8, .f32⟩
  | .hbm, ⟨4, _⟩ => ⟨S2x896x64, .bf16⟩
  | .hbm, ⟨5, _⟩ => ⟨S2x896x24x512, .bf16⟩
  | .hbm, ⟨6, _⟩ => ⟨S2x896x24, .f32⟩
  | .hbm, ⟨7, _⟩ => ⟨S2x896x24x512, .fp8e5m2⟩
  | .hbm, ⟨8, _⟩ => ⟨S2x896, .f32⟩
  | .hbm, ⟨9, _⟩ => ⟨S2x896x1, .f32⟩
  | .hbm, ⟨10, _⟩ => ⟨S2x896x24, .f32⟩
  | .hbm, ⟨11, _⟩ => ⟨S2x1x896x24, .f32⟩
  | .hbm, ⟨12, _⟩ => ⟨S2x1x896x24, .f32⟩
  | .hbm, ⟨13, _⟩ => ⟨S2x1x896x24, .f32⟩
  | .hbm, ⟨14, _⟩ => ⟨S2x3x896x24, .f32⟩
  | .hbm, ⟨15, _⟩ => ⟨S2x3x28x768, .f32⟩
  | .hbm, ⟨16, _⟩ => ⟨S2x28x3x768, .f32⟩
  | .hbm, ⟨17, _⟩ => ⟨S2x21504x576, .fp8e4m3⟩
  | .hbm, ⟨18, _⟩ => ⟨S2x21504x512, .bf16⟩
  | .hbm, ⟨19, _⟩ => ⟨S2x21504x512, .fp8e5m2⟩
  | .hbm, ⟨20, _⟩ => ⟨S2x21504x576, .bf16⟩
  | .hbm, ⟨21, _⟩ => ⟨S2x896x512, .f32⟩
  | .hbm, ⟨22, _⟩ => ⟨S2x896x64, .f32⟩
  | .local _ .vmem, ⟨0, _⟩ => ⟨S1x1x3x768, .f32⟩
  | .local _ .vmem, ⟨1, _⟩ => ⟨S1x1x3x768, .f32⟩
  | .local _ .vmem, ⟨2, _⟩ => ⟨S1x768x576, .fp8e4m3⟩
  | .local _ .vmem, ⟨3, _⟩ => ⟨S1x768x576, .fp8e4m3⟩
  | .local _ .vmem, ⟨4, _⟩ => ⟨S1x896x512, .fp8e4m3⟩
  | .local _ .vmem, ⟨5, _⟩ => ⟨S1x896x512, .fp8e4m3⟩
  | .local _ .vmem, ⟨6, _⟩ => ⟨S1x896x8, .f32⟩
  | .local _ .vmem, ⟨7, _⟩ => ⟨S1x896x8, .f32⟩
  | .local _ .vmem, ⟨8, _⟩ => ⟨S1x896x64, .bf16⟩
  | .local _ .vmem, ⟨9, _⟩ => ⟨S1x896x64, .bf16⟩
  | .local _ .vmem, ⟨10, _⟩ => ⟨S1x768x512, .bf16⟩
  | .local _ .vmem, ⟨11, _⟩ => ⟨S1x768x512, .bf16⟩
  | .local _ .vmem, ⟨12, _⟩ => ⟨S1x768x512, .fp8e5m2⟩
  | .local _ .vmem, ⟨13, _⟩ => ⟨S1x768x512, .fp8e5m2⟩
  | .local _ .vmem, ⟨14, _⟩ => ⟨S1x768x576, .bf16⟩
  | .local _ .vmem, ⟨15, _⟩ => ⟨S1x768x576, .bf16⟩
  | .local _ .vmem, ⟨16, _⟩ => ⟨S1x896x512, .f32⟩
  | .local _ .vmem, ⟨17, _⟩ => ⟨S1x896x512, .f32⟩
  | .local _ .vmem, ⟨18, _⟩ => ⟨S1x896x64, .f32⟩
  | .local _ .vmem, ⟨19, _⟩ => ⟨S1x896x64, .f32⟩
  | .local _ .vmem, ⟨20, _⟩ => ⟨S896x576, .bf16⟩
  | .local _ .vmem, ⟨21, _⟩ => ⟨S576x896, .bf16⟩
  | .local _ .vmem, ⟨22, _⟩ => ⟨S576x768, .f32⟩
  | _, _ => ⟨S2x896x24x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 28], ![false, false]⟩

@[reducible] def k0_t1_loop (i : grid0.Coords) : Scf.Loop 32 :=
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_45 : BitVec 32 := 1#32
  ⟨c0_i32_43, v92, c1_i32_45⟩
def k0_mult1 (i : grid0.Coords) (k0_t1 : Fin (k0_t1_loop i).trips) : BitVec 32 :=
  let c0_i32_42 : BitVec 32 := 0#32
  let c0_i32_43 : BitVec 32 := 0#32
  let c1_i32_45 : BitVec 32 := 1#32
  let arg15 : BitVec 32 := Scf.iv c0_i32_43 c1_i32_45 k0_t1
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  v101
def k0_off1 (i : grid0.Coords) (k0_t1 : Fin (k0_t1_loop i).trips) : Fin 2 → Nat :=
  let c0_i32_42 : BitVec 32 := 0#32
  let c0_i32_43 : BitVec 32 := 0#32
  let c1_i32_45 : BitVec 32 := 1#32
  let arg15 : BitVec 32 := Scf.iv c0_i32_43 c1_i32_45 k0_t1
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v103 : Index := Scalar.indexCast v102
  let c0_53 : Index := 0#32
  ![v103.toNat, 0]
def k0_off2 (i : grid0.Coords) (k0_t1 : Fin (k0_t1_loop i).trips) : Fin 3 → Nat :=
  let c0_58 : Index := 0#32
  let c0_i32_42 : BitVec 32 := 0#32
  let c0_i32_43 : BitVec 32 := 0#32
  let c1_i32_45 : BitVec 32 := 1#32
  let arg15 : BitVec 32 := Scf.iv c0_i32_43 c1_i32_45 k0_t1
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v134 : Index := Scalar.indexCast v102
  let c0_59 : Index := 0#32
  ![0, v134.toNat, 0]
def k0_off3 (i : grid0.Coords) (k0_t1 : Fin (k0_t1_loop i).trips) : Fin 3 → Nat :=
  let c0_64 : Index := 0#32
  let c0_i32_42 : BitVec 32 := 0#32
  let c0_i32_43 : BitVec 32 := 0#32
  let c1_i32_45 : BitVec 32 := 1#32
  let arg15 : BitVec 32 := Scf.iv c0_i32_43 c1_i32_45 k0_t1
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v146 : Index := Scalar.indexCast v102
  let c0_65 : Index := 0#32
  ![0, v146.toNat, 0]
def k0_off4 (i : grid0.Coords) (k0_t1 : Fin (k0_t1_loop i).trips) : Fin 2 → Nat :=
  let c0_71 : Index := 0#32
  let c0_i32_42 : BitVec 32 := 0#32
  let c0_i32_43 : BitVec 32 := 0#32
  let c1_i32_45 : BitVec 32 := 1#32
  let arg15 : BitVec 32 := Scf.iv c0_i32_43 c1_i32_45 k0_t1
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v157 : Index := Scalar.indexCast v102
  ![0, v157.toNat]
@[reducible] def k0_t2_loop (i : grid0.Coords) : Scf.Loop 32 :=
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let v89 : BitVec 32 := Scalar.addi c0_i32_43 v88
  let c1_i32_46 : BitVec 32 := 1#32
  ⟨v92, v89, c1_i32_46⟩
def k0_mult2 (i : grid0.Coords) (k0_t2 : Fin (k0_t2_loop i).trips) : BitVec 32 :=
  let c0_i32_42 : BitVec 32 := 0#32
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg15 : BitVec 32 := Scf.iv v92 c1_i32_46 k0_t2
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  v101
def k0_off5 (i : grid0.Coords) (k0_t2 : Fin (k0_t2_loop i).trips) : Fin 2 → Nat :=
  let c0_i32_42 : BitVec 32 := 0#32
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg15 : BitVec 32 := Scf.iv v92 c1_i32_46 k0_t2
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v103 : Index := Scalar.indexCast v102
  let c0_53 : Index := 0#32
  ![v103.toNat, 0]
def k0_off6 (i : grid0.Coords) (k0_t2 : Fin (k0_t2_loop i).trips) : Fin 3 → Nat :=
  let c0_58 : Index := 0#32
  let c0_i32_42 : BitVec 32 := 0#32
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg15 : BitVec 32 := Scf.iv v92 c1_i32_46 k0_t2
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v134 : Index := Scalar.indexCast v102
  let c0_59 : Index := 0#32
  ![0, v134.toNat, 0]
def k0_off7 (i : grid0.Coords) (k0_t2 : Fin (k0_t2_loop i).trips) : Fin 3 → Nat :=
  let c0_64 : Index := 0#32
  let c0_i32_42 : BitVec 32 := 0#32
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg15 : BitVec 32 := Scf.iv v92 c1_i32_46 k0_t2
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v146 : Index := Scalar.indexCast v102
  let c0_65 : Index := 0#32
  ![0, v146.toNat, 0]
def k0_off8 (i : grid0.Coords) (k0_t2 : Fin (k0_t2_loop i).trips) : Fin 2 → Nat :=
  let c0_71 : Index := 0#32
  let c0_i32_42 : BitVec 32 := 0#32
  let c0_i32_43 : BitVec 32 := 0#32
  let arg1 : BitVec 32 := BitVec.ofNat 32 (i 1).val
  let c32_i32_29 : BitVec 32 := 32#32
  let v65 : BitVec 32 := Scalar.muli arg1 c32_i32_29
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c128_i32 : BitVec 32 := 128#32
  let c0_i32_32 : BitVec 32 := 0#32
  let v72 : BitVec 1 := Scalar.cmpi .sgt c128_i32 c0_i32_32
  let v73 : BitVec 32 := Scalar.extui v72
  let c0_i32_33 : BitVec 32 := 0#32
  let v74 : BitVec 1 := Scalar.cmpi .slt c128_i32 c0_i32_33
  let v75 : BitVec 32 := Scalar.extui v74
  let v76 : BitVec 32 := Scalar.subi v73 v75
  let v77 : BitVec 1 := Scalar.cmpi .ne v71 v76
  let v78 : BitVec 32 := Scalar.remsi v65 c128_i32
  let c0_i32_34 : BitVec 32 := 0#32
  let v79 : BitVec 1 := Scalar.cmpi .ne v78 c0_i32_34
  let v80 : BitVec 1 := Scalar.andi v77 v79
  let v66 : BitVec 32 := Scalar.divsi v65 c128_i32
  let c1_i32_35 : BitVec 32 := 1#32
  let v81 : BitVec 32 := Scalar.subi v66 c1_i32_35
  let v82 : BitVec 32 := Scalar.select v80 v81 v66
  let c1_i32_36 : BitVec 32 := 1#32
  let v83 : BitVec 32 := Scalar.addi v82 c1_i32_36
  let c0_i32_37 : BitVec 32 := 0#32
  let v84 : BitVec 32 := Scalar.subi v83 c0_i32_37
  let c1_i32_38 : BitVec 32 := 1#32
  let c1_i32_39 : BitVec 32 := 1#32
  let v85 : BitVec 32 := Scalar.subi c1_i32_38 c1_i32_39
  let v86 : BitVec 32 := Scalar.addi v84 v85
  let c1_i32_40 : BitVec 32 := 1#32
  let v87 : BitVec 32 := Scalar.divsi v86 c1_i32_40
  let v88 : BitVec 32 := Scalar.subi v87 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg15 : BitVec 32 := Scf.iv v92 c1_i32_46 k0_t2
  let c1_i32_41 : BitVec 32 := 1#32
  let v99 : BitVec 32 := Scalar.muli arg15 c1_i32_41
  let v100 : BitVec 32 := Scalar.addi c0_i32_42 v99
  let c128_i32_52 : BitVec 32 := 128#32
  let v101 : BitVec 32 := Scalar.muli v100 c128_i32_52
  let v102 : BitVec 32 := v101
  let v157 : Index := Scalar.indexCast v102
  ![0, v157.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x576 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x896x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x896x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x896x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x576 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x896x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x896x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S2x896x24x576 : Shape := ⟨4, ![2, 896, 24, 576]⟩
abbrev S2x896x24 : Shape := ⟨3, ![2, 896, 24]⟩
abbrev S2x896x512 : Shape := ⟨3, ![2, 896, 512]⟩
abbrev S2x896x8 : Shape := ⟨3, ![2, 896, 8]⟩
abbrev S2x896x64 : Shape := ⟨3, ![2, 896, 64]⟩
abbrev S2x896x24x512 : Shape := ⟨4, ![2, 896, 24, 512]⟩
abbrev S2x896 : Shape := ⟨2, ![2, 896]⟩
abbrev S2x21504x576 : Shape := ⟨3, ![2, 21504, 576]⟩
abbrev S2x896x8x64 : Shape := ⟨4, ![2, 896, 8, 64]⟩
abbrev S2x896x8x1 : Shape := ⟨4, ![2, 896, 8, 1]⟩
abbrev S2x896x576 : Shape := ⟨3, ![2, 896, 576]⟩
abbrev S2x896x24x1 : Shape := ⟨4, ![2, 896, 24, 1]⟩
abbrev S2x896x1x1 : Shape := ⟨4, ![2, 896, 1, 1]⟩
abbrev S2x21504x896 : Shape := ⟨3, ![2, 21504, 896]⟩
abbrev S2x896x24x896 : Shape := ⟨4, ![2, 896, 24, 896]⟩
abbrev S2x21504x512 : Shape := ⟨3, ![2, 21504, 512]⟩

abbrev nBuf : Space → Nat
  | .hbm => 12
  | .vmem => 12
  | .smem => 0
  | _ => 0

abbrev bufTy : (tb : Table) → Fin (tcTables nBuf tb) → BufTy
  | .hbm, ⟨0, _⟩ => ⟨S2x896x24x576, .fp8e4m3⟩
  | .hbm, ⟨1, _⟩ => ⟨S2x896x24, .f32⟩
  | .hbm, ⟨2, _⟩ => ⟨S2x896x512, .fp8e4m3⟩
  | .hbm, ⟨3, _⟩ => ⟨S2x896x8, .f32⟩
  | .hbm, ⟨4, _⟩ => ⟨S2x896x64, .bf16⟩
  | .hbm, ⟨5, _⟩ => ⟨S2x896x24x512, .bf16⟩
  | .hbm, ⟨6, _⟩ => ⟨S2x896x24, .f32⟩
  | .hbm, ⟨7, _⟩ => ⟨S2x896x24x512, .fp8e5m2⟩
  | .hbm, ⟨8, _⟩ => ⟨S2x896, .f32⟩
  | .hbm, ⟨9, _⟩ => ⟨S2x21504x576, .bf16⟩
  | .hbm, ⟨10, _⟩ => ⟨S2x896x512, .f32⟩
  | .hbm, ⟨11, _⟩ => ⟨S2x896x64, .f32⟩
  | .local _ .vmem, ⟨0, _⟩ => ⟨S2x896x24x576, .fp8e4m3⟩
  | .local _ .vmem, ⟨1, _⟩ => ⟨S2x896x24, .f32⟩
  | .local _ .vmem, ⟨2, _⟩ => ⟨S2x896x512, .fp8e4m3⟩
  | .local _ .vmem, ⟨3, _⟩ => ⟨S2x896x8, .f32⟩
  | .local _ .vmem, ⟨4, _⟩ => ⟨S2x896x64, .bf16⟩
  | .local _ .vmem, ⟨5, _⟩ => ⟨S2x896x24x512, .bf16⟩
  | .local _ .vmem, ⟨6, _⟩ => ⟨S2x896x24, .f32⟩
  | .local _ .vmem, ⟨7, _⟩ => ⟨S2x896x24x512, .fp8e5m2⟩
  | .local _ .vmem, ⟨8, _⟩ => ⟨S2x896, .f32⟩
  | .local _ .vmem, ⟨9, _⟩ => ⟨S2x21504x576, .bf16⟩
  | .local _ .vmem, ⟨10, _⟩ => ⟨S2x896x512, .f32⟩
  | .local _ .vmem, ⟨11, _⟩ => ⟨S2x896x64, .f32⟩
  | _, _ => ⟨S2x896x24x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "scale" => some (((Real.sqrt 192)⁻¹ : ℝ) : EReal)
  | _ => none

abbrev grid0 : Pipeline.Grid := .none

abbrev stage0_0 : Fin 1 → Memref sig .tc .vmem S2x896x24x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896x24x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x24x512 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x21504x576 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x896x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x896x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Payloads.lean ====
/-
  What one trip of the kernel's key loop computes, read element by element over the extended reals.

  A trip works on 128 consecutive keys and on the 768 rows of one grid point (32 tokens × 24 heads). The three
  quantities of the backward pass of attention are named here once: the score of a key against a row, the probability,
  and the gradient of the score. Every payload the trip stores is then a sum of products of these.
-/
module

public import proofs.«01_k».proof.Proof.Gen.KernelIdeal.Skeleton
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- The score of key `j` against row `y`, before scaling. -/
def stE (K : Vec Ideal S896x576 .bf16) (v4 : FVec Ideal S768x576 .fp8e4m3) (j : Fin 896) (y : Fin 768) : EReal :=
  ∑ d : Fin 576, K (ix2 j d) * v4 (ix2 y d)

/-- The probability of key `j` at row `y`: zero unless the key is not after the row's token. -/
def pE (K : Vec Ideal S896x576 .bf16) (v4 : FVec Ideal S768x576 .fp8e4m3) (v14 v16 : FVec Ideal S1x768 .f32)
    (v60 : IVec S1x768 32) (j : Fin 896) (y : Fin 768) : EReal :=
  Scalar.select (IntOp.cmpi .sle (BitVec.ofNat 32 j.val) (v60 (ix2 0 y)))
    (FloatOps.exp2 (F := Ideal) (φ := .f32) (stE K v4 j y * v14 (ix2 0 y) - v16 (ix2 0 y))) 0

/-- The gradient of the score of key `j` at row `y`. -/
def dsE (K : Vec Ideal S896x576 .bf16) (v4 : FVec Ideal S768x576 .fp8e4m3) (v6 : FVec Ideal S768x512 .fp8e5m2)
    (v12 v14 v16 v32 : FVec Ideal S1x768 .f32) (v60 : IVec S1x768 32) (j : Fin 896) (y : Fin 768) : EReal :=
  Named.named (F := Ideal) κ "scale" (φ := .f32) 0x3D93CD3A#32
    * (pE K v4 v14 v16 v60 j y
      * ((∑ x : Fin 512, K (ix2 j ⟨x.val, by omega⟩) * v6 (ix2 y x)) * v12 (ix2 0 y) - v32 (ix2 0 y)))

/-- What row `y` of key `j`'s latent gradient receives at column `d` from this grid point. -/
def dcE (K : Vec Ideal S896x576 .bf16) (v4 : FVec Ideal S768x576 .fp8e4m3) (v6 : FVec Ideal S768x512 .fp8e5m2)
    (v8 v12 v14 v16 v32 : FVec Ideal S1x768 .f32) (v60 : IVec S1x768 32) (j : Fin 896) (d : Fin 512) : EReal :=
  (∑ y : Fin 768, dsE K v4 v6 v12 v14 v16 v32 v60 j y * v8 (ix2 0 y) * v4 (ix2 y ⟨d.val, by omega⟩))
    + ∑ y : Fin 768, pE K v4 v14 v16 v60 j y * v12 (ix2 0 y) * v6 (ix2 y d)

/-- What key `j`'s positional gradient receives at column `e` from this grid point. -/
def drE (K : Vec Ideal S896x576 .bf16) (v4 : FVec Ideal S768x576 .fp8e4m3) (v6 : FVec Ideal S768x512 .fp8e5m2)
    (v8 v12 v14 v16 v32 : FVec Ideal S1x768 .f32) (v60 : IVec S1x768 32) (j : Fin 896) (e : Fin 64) : EReal :=
  ∑ y : Fin 768, dsE K v4 v6 v12 v14 v16 v32 v60 j y * v8 (ix2 0 y) * v4 (ix2 y ⟨512 + e.val, by omega⟩)

/-- The trip's block of keys: rows `128 n …` of the 896. -/
def IsRows (K : Vec Ideal S896x576 .bf16) (n : ℕ) (v104 : Vec Ideal S128x576 .bf16) : Prop :=
  ∀ (r : Fin 128) (d : Fin 576) (h : 128 * n + r.val < 896), v104 (ix2 r d) = K (ix2 ⟨128 * n + r.val, h⟩ d)

/-- The word a trip compares with a row's token: the key's number. -/
theorem key_word {n : ℕ} (hn : n < 7) (r : ℕ) :
    IntOp.addi (Scalar.muli (Scalar.addi (0#32) (Scalar.muli (Scf.iv 0#32 1#32 n) 1#32)) 128#32) (BitVec.ofNat 32 r)
      = BitVec.ofNat 32 (128 * n + r) := by
  rw [BitVec.ofNat_add]
  show _ + _ = _
  congr 1
  interval_cases n <;> rfl

/-- The probabilities of a trip. -/
theorem pay7_apply (i : grid0.Coords) (v4 : FVec Ideal S768x576 .fp8e4m3) (v14 v16 : FVec Ideal S1x768 .f32) (v60 : IVec S1x768 32)
    (k : Fin (k0_t1_loop i).trips) (hk : k.val < 7) (K : Vec Ideal S896x576 .bf16)
    (v104 : Vec Ideal S128x576 .bf16) (h : IsRows K k.val v104) (r : Fin 128) (y : Fin 768) :
    k0_pay7 (F := Ideal) i v4 v14 v16 v60 1#32 0#32 0#32 1#32 k v104 (ix2 r y)
      = pE K v4 v14 v16 v60 ⟨128 * k.val + r.val, by omega⟩ y := by
  pointwise [k0_pay7]
  rw [key_word hk]
  unfold pE stE
  refine congrArg (fun z => Scalar.select _ (FloatOps.exp2 (F := Ideal) (φ := .f32) (z * v14 (ix2 0 y) - v16 (ix2 0 y))) 0) ?_
  exact Finset.sum_congr rfl fun x _ => congrArg (· * _) (h r x (by omega))

/-- The gradients of the scores of a trip. -/
theorem pay8_apply (i : grid0.Coords) (v4 : FVec Ideal S768x576 .fp8e4m3) (v6 : FVec Ideal S768x512 .fp8e5m2)
    (v12 v14 v16 v32 : FVec Ideal S1x768 .f32) (v60 : IVec S1x768 32)
    (k : Fin (k0_t1_loop i).trips) (hk : k.val < 7) (K : Vec Ideal S896x576 .bf16)
    (v104 : Vec Ideal S128x576 .bf16) (h : IsRows K k.val v104) (r : Fin 128) (y : Fin 768) :
    k0_pay8 (F := Ideal) i v4 v6 v12 v14 v16 v32 v60 1#32 0#32 0#32 1#32 k v104 (ix2 r y)
      = dsE K v4 v6 v12 v14 v16 v32 v60 ⟨128 * k.val + r.val, by omega⟩ y := by
  pointwise [k0_pay8]
  refine congrArg (_ * ·) ?_
  refine (congrArg (· * _) (pay7_apply i v4 v14 v16 v60 k hk K v104 h r y)).trans ?_
  refine congrArg (fun z => pE K v4 v14 v16 v60 ⟨128 * k.val + r.val, by omega⟩ y * (z * v12 (ix2 0 y) - v32 (ix2 0 y))) ?_
  exact Finset.sum_congr rfl fun x _ => congrArg (· * _) (h r _ (by omega))

/-- The latent gradient a trip stores for its keys: what was there, and this point's share. -/
theorem pay10_apply (i : grid0.Coords) (v4 : FVec Ideal S768x576 .fp8e4m3) (v6 : FVec Ideal S768x512 .fp8e5m2)
    (v8 v12 v14 v16 v32 : FVec Ideal S1x768 .f32) (v60 : IVec S1x768 32)
    (k : Fin (k0_t1_loop i).trips) (hk : k.val < 7) (K : Vec Ideal S896x576 .bf16)
    (v104 : Vec Ideal S128x576 .bf16) (h : IsRows K k.val v104) (v135 : Vec Ideal S1x128x512 .f32)
    (r : Fin 128) (d : Fin 512) :
    k0_pay10 (F := Ideal) i v4 v6 v8 v12 v14 v16 v32 v60 1#32 0#32 0#32 1#32 k v104 v135 (ix3 0 r d)
      = v135 (ix3 0 r d) + dcE K v4 v6 v8 v12 v14 v16 v32 v60 ⟨128 * k.val + r.val, by omega⟩ d := by
  pointwise [k0_pay10, k0_pay9]
  refine congrArg (_ + ·) (congrArg₂ (· + ·) ?_ ?_)
  · exact Finset.sum_congr rfl fun y _ => congrArg (fun z => z * _ * _) (pay8_apply i v4 v6 v12 v14 v16 v32 v60 k hk K v104 h r y)
  · exact Finset.sum_congr rfl fun y _ => congrArg (fun z => z * _ * _) (pay7_apply i v4 v14 v16 v60 k hk K v104 h r y)

/-- The positional gradient a trip stores for its keys: what was there, and this point's share. -/
theorem pay1_apply (i : grid0.Coords) (v4 : FVec Ideal S768x576 .fp8e4m3) (v6 : FVec Ideal S768x512 .fp8e5m2)
    (v8 v12 v14 v16 v32 : FVec Ideal S1x768 .f32) (v60 : IVec S1x768 32)
    (k : Fin (k0_t1_loop i).trips) (hk : k.val < 7) (K : Vec Ideal S896x576 .bf16)
    (v104 : Vec Ideal S128x576 .bf16) (h : IsRows K k.val v104) (v147 : Vec Ideal S1x128x64 .f32)
    (r : Fin 128) (e : Fin 64) :
    k0_pay1 (F := Ideal) v4 (k0_pay9 i v4 v6 v8 v12 v14 v16 v32 v60 1#32 0#32 0#32 1#32 k v104) v147 (ix3 0 r e)
      = v147 (ix3 0 r e) + drE K v4 v6 v8 v12 v14 v16 v32 v60 ⟨128 * k.val + r.val, by omega⟩ e := by
  pointwise [k0_pay1, k0_pay9]
  refine congrArg (_ + ·) ?_
  exact Finset.sum_congr rfl fun y _ => congrArg (fun z => z * _ * _) (pay8_apply i v4 v6 v12 v14 v16 v32 v60 k hk K v104 h r y)

/-- The transposed query gradient a trip stores: what was there, and the trip's keys weighted by the scores' gradients. -/
theorem pay2_apply (i : grid0.Coords) (v4 : FVec Ideal S768x576 .fp8e4m3) (v6 : FVec Ideal S768x512 .fp8e5m2)
    (v12 v14 v16 v32 : FVec Ideal S1x768 .f32) (v60 : IVec S1x768 32)
    (k : Fin (k0_t1_loop i).trips) (hk : k.val < 7) (K : Vec Ideal S896x576 .bf16)
    (v104 : Vec Ideal S128x576 .bf16) (h : IsRows K k.val v104) (v156 : Vec Ideal S576x768 .f32)
    (v158 : Vec Ideal S576x128 .bf16) (d : Fin 576) (y : Fin 768) :
    k0_pay2 (F := Ideal) (k0_pay8 i v4 v6 v12 v14 v16 v32 v60 1#32 0#32 0#32 1#32 k v104) v156 v158 (ix2 d y)
      = v156 (ix2 d y) + ∑ r : Fin 128, v158 (ix2 d r) * dsE K v4 v6 v12 v14 v16 v32 v60 ⟨128 * k.val + r.val, by omega⟩ y := by
  pointwise [k0_pay2]
  refine congrArg (_ + ·) ?_
  exact Finset.sum_congr rfl fun r _ => congrArg (_ * ·) (pay8_apply i v4 v6 v12 v14 v16 v32 v60 k hk K v104 h r y)

/-- The block of query gradients is the transpose of what the loop leaves. -/
theorem pay5_apply (v93 : Vec Ideal S576x768 .f32) (y : Fin 768) (d : Fin 576) :
    k0_pay5 (F := Ideal) v93 (ix3 0 y d) = v93 (ix2 d y) := by
  pointwise [k0_pay5]

end Cert.KernelIdeal.Value
end
-- ==== Proof.Maths.lean ====
/-
  The mathematics of the backward pass over the extended reals, apart from any program: what the three results are, and
  the few laws the kernel's way of computing them rests on.
-/
module

public import Idealize.ShloMosaic.Lib.Pointwise

@[expose] public section

noncomputable section

namespace Cert.Maths

open Idealize.ShloMosaic

/-- The arrays of the problem, dequantised where they carry no scale of their own: queries and their scales, keys,
    outputs, log-sum-exps, output gradients and their scales. Indices: batch, token, head, column. -/
structure Args where
  q : Fin 2 → Fin 896 → Fin 24 → Fin 576 → EReal
  qs : Fin 2 → Fin 896 → Fin 24 → EReal
  k : Fin 2 → Fin 896 → Fin 576 → EReal
  o : Fin 2 → Fin 896 → Fin 24 → Fin 512 → EReal
  lse : Fin 2 → Fin 896 → Fin 24 → EReal
  g : Fin 2 → Fin 896 → Fin 24 → Fin 512 → EReal
  gs : Fin 2 → Fin 896 → EReal

/-- The problem's arrays as the programs take them: the keys are the latents times the scale of their block of 64 columns,
    then the positional columns. -/
def argsOf (a0 : Shape.Idx ⟨4, ![2, 896, 24, 576]⟩ → EReal) (a1 : Shape.Idx ⟨3, ![2, 896, 24]⟩ → EReal)
    (a2 : Shape.Idx ⟨3, ![2, 896, 512]⟩ → EReal) (a3 : Shape.Idx ⟨3, ![2, 896, 8]⟩ → EReal)
    (a4 : Shape.Idx ⟨3, ![2, 896, 64]⟩ → EReal) (a5 : Shape.Idx ⟨4, ![2, 896, 24, 512]⟩ → EReal)
    (a6 : Shape.Idx ⟨3, ![2, 896, 24]⟩ → EReal) (a7 : Shape.Idx ⟨4, ![2, 896, 24, 512]⟩ → EReal)
    (a8 : Shape.Idx ⟨2, ![2, 896]⟩ → EReal) : Args where
  q b i h d := a0 (ix4 b i h d)
  qs b i h := a1 (ix3 b i h)
  k b j d := if h : d.val < 512 then a2 (ix3 b j ⟨d.val, h⟩) * a3 (ix3 b j ⟨d.val / 64, by omega⟩)
    else a4 (ix3 b j ⟨d.val - 512, by omega⟩)
  o b i h d := a5 (ix4 b i h d)
  lse b i h := a6 (ix3 b i h)
  g b i h d := a7 (ix4 b i h d)
  gs b i := a8 (ix2 b i)

/-- The scale of the scores. -/
abbrev scale : EReal := (((Real.sqrt 192)⁻¹ : ℝ) : EReal)

variable (A : Args)

/-- The probability of key `j` for head `h` of token `i`. -/
def prob (b : Fin 2) (i : Fin 896) (h : Fin 24) (j : Fin 896) : EReal :=
  if j.val ≤ i.val then Ideal.exp (scale * ((∑ d : Fin 576, A.q b i h d * A.k b j d) * A.qs b i h) - A.lse b i h) else 0

/-- The gradient of the score of key `j` for head `h` of token `i`. -/
def grad (b : Fin 2) (i : Fin 896) (h : Fin 24) (j : Fin 896) : EReal :=
  scale * (prob A b i h j
    * ((∑ d : Fin 512, A.g b i h d * A.k b j ⟨d.val, by omega⟩) * A.gs b i
      - ∑ d : Fin 512, A.g b i h d * A.gs b i * A.o b i h d))

/-- The token of a row. -/
abbrev tokOf (x : Fin 21504) : Fin 896 := ⟨x.val / 24, by omega⟩

/-- The head of a row. -/
abbrev headOf (x : Fin 21504) : Fin 24 := ⟨x.val % 24, by omega⟩

/-- The gradient of the queries, rows being token and head together. -/
def dq (b : Fin 2) (x : Fin 21504) (e : Fin 576) : EReal :=
  ∑ j : Fin 896, grad A b (tokOf x) (headOf x) j * A.k b j e

/-- The gradient of the keys through the scores. -/
def dk (b : Fin 2) (j : Fin 896) (e : Fin 576) : EReal :=
  ∑ x : Fin 21504, grad A b (tokOf x) (headOf x) j * (A.q b (tokOf x) (headOf x) e * A.qs b (tokOf x) (headOf x))

/-- The gradient of the latents: through the scores and through the values. -/
def dc (b : Fin 2) (j : Fin 896) (d : Fin 512) : EReal :=
  dk A b j ⟨d.val, by omega⟩
    + ∑ x : Fin 21504, prob A b (tokOf x) (headOf x) j * (A.g b (tokOf x) (headOf x) d * A.gs b (tokOf x))

/-- The gradient of the positional keys. -/
def dr (b : Fin 2) (j : Fin 896) (e : Fin 64) : EReal := dk A b j ⟨512 + e.val, by omega⟩

/-! ## Laws -/

/-- `2` to the power `z / log 2` is `e` to the power `z`. -/
theorem exp2_log2e (z : EReal) : Ideal.exp2 (z * (((Real.log 2)⁻¹ : ℝ) : EReal)) = Ideal.exp z := by
  have hL : (0 : ℝ) < (Real.log 2)⁻¹ := inv_pos.mpr (Real.log_pos (by norm_num))
  induction z with
  | bot => rw [EReal.bot_mul_coe_of_pos hL]; rfl
  | top => rw [EReal.top_mul_coe_of_pos hL]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have : Real.log 2 ≠ 0 := (Real.log_pos (by norm_num)).ne'
    field_simp

/-- The kernel's exponent, scaled by `1 / log 2` in its two parts, gives the reference's probability. -/
theorem exp2_scores (st qs lse : EReal) :
    Ideal.exp2 (st * (qs * (((Real.sqrt 192)⁻¹ * (Real.log 2)⁻¹ : ℝ) : EReal)) - lse * (((Real.log 2)⁻¹ : ℝ) : EReal))
      = Ideal.exp (scale * (st * qs) - lse) := by
  have hL : (0 : ℝ) < (Real.log 2)⁻¹ := inv_pos.mpr (Real.log_pos (by norm_num))
  rw [← exp2_log2e]
  congr 1
  rw [sub_eq_add_neg (scale * _), EReal.right_distrib_of_nonneg_of_ne_top (EReal.coe_nonneg.mpr hL.le) (EReal.coe_ne_top _),
    EReal.neg_mul, ← sub_eq_add_neg, EReal.coe_mul]
  congr 1
  rw [← mul_assoc qs, ← mul_assoc st, ← mul_assoc st, mul_comm (st * qs)]

/-- A sum times a finite scale that isn't negative. -/
theorem sum_mul_scale {ι : Type} (s : Finset ι) (f : ι → EReal) {c : EReal} (h0 : 0 ≤ c) (hc : c ≠ ⊤) :
    (∑ x ∈ s, f x) * c = ∑ x ∈ s, f x * c := by
  classical
  induction s using Finset.induction_on with
  | empty => simp
  | insert a s ha ih => rw [Finset.sum_insert ha, Finset.sum_insert ha, EReal.right_distrib_of_nonneg_of_ne_top h0 hc, ih]

/-- The kernel scales the row sum of `g * o`, the reference scales `g` first. -/
theorem delta_scale (f o : Fin 512 → EReal) {c : EReal} (h0 : 0 ≤ c) (hc : c ≠ ⊤) :
    (∑ d : Fin 512, f d * o d) * c = ∑ d : Fin 512, f d * c * o d := by
  rw [sum_mul_scale _ _ h0 hc]
  exact Finset.sum_congr rfl fun d _ => mul_right_comm _ _ _

/-- Four quarters added lane by lane, then over the lanes, make the whole sum. -/
theorem sum_quarters (f : Fin 512 → EReal) :
    (∑ x : Fin 128, ((f ⟨x.val, by omega⟩ + f ⟨128 + x.val, by omega⟩) + (f ⟨256 + x.val, by omega⟩ + f ⟨384 + x.val, by omega⟩)))
      = ∑ d : Fin 512, f d := by
  have h1 : ∑ d : Fin 512, f d = (∑ d : Fin 256, f ⟨d.val, by omega⟩) + ∑ d : Fin 256, f ⟨256 + d.val, by omega⟩ :=
    Fin.sum_univ_add (a := 256) (b := 256) f
  have h2 : (∑ d : Fin 256, f ⟨d.val, by omega⟩) = (∑ x : Fin 128, f ⟨x.val, by omega⟩) + ∑ x : Fin 128, f ⟨128 + x.val, by omega⟩ :=
    Fin.sum_univ_add (a := 128) (b := 128) fun d : Fin 256 => f ⟨d.val, by omega⟩
  have h3 : (∑ d : Fin 256, f ⟨256 + d.val, by omega⟩)
      = (∑ x : Fin 128, f ⟨256 + x.val, by omega⟩) + ∑ x : Fin 128, f ⟨384 + x.val, by omega⟩ := by
    refine (Fin.sum_univ_add (a := 128) (b := 128) fun d : Fin 256 => f ⟨256 + d.val, by omega⟩).trans (congrArg _ ?_)
    refine Finset.sum_congr rfl fun x _ => congrArg f (Fin.ext ?_)
    show 256 + (128 + x.val) = 384 + x.val
    omega
  rw [h1, h2, h3, Finset.sum_add_distrib, Finset.sum_add_distrib, Finset.sum_add_distrib]

/-- Row `y` of tile `t`. -/
abbrev rowOf (t : Fin 28) (y : Fin 768) : Fin 21504 := ⟨768 * t.val + y.val, by omega⟩

/-- The rows tile by tile. -/
theorem sum_tiles (f : Fin 21504 → EReal) : (∑ t : Fin 28, ∑ y : Fin 768, f (rowOf t y)) = ∑ x : Fin 21504, f x := by
  rw [← Fintype.sum_prod_type' (f := fun (t : Fin 28) (y : Fin 768) => f (rowOf t y))]
  refine Fintype.sum_equiv (finProdFinEquiv (m := 28) (n := 768)) _ f fun x => congrArg f (Fin.ext ?_)
  show 768 * x.1.val + x.2.val = x.2.val + 768 * x.1.val
  omega

/-- A sum against a one-hot vector picks its element. -/
theorem sum_pick {n : ℕ} (a : Fin n) (f : Fin n → EReal) : (∑ x : Fin n, if a = x then f x else 0) = f a := by
  rw [Finset.sum_ite_eq]; simp

end Cert.Maths

end
-- ==== Proof.Rows.lean ====
/-
  What a grid point prepares before its key loop, read element by element: the keys held in scratch, the rows' scales,
  the row sums, the tokens; and the three quantities of `Payloads` in terms of the point's own blocks.
-/
module

public import proofs.«01_k».proof.Proof.Payloads
public import proofs.«01_k».proof.Proof.Maths

@[expose] public section

noncomputable section

namespace Cert.KernelIdeal.Value

open Idealize.ShloMosaic Idealize.ShloMosaic.TcCoe Idealize.SL.Sem
open Cert.KernelIdeal Cert.KernelIdeal.Gen
set_option maxRecDepth 16384

open Cert.Maths

/-! ## Words -/

/-- The word comparison of two small numbers. -/
theorem select_le {α : Type} {j i : ℕ} (hj : j < 2 ^ 31) (hi : i < 2 ^ 31) (a b : α) :
    Scalar.select (IntOp.cmpi .sle (BitVec.ofNat 32 j) (BitVec.ofNat 32 i)) a b = if j ≤ i then a else b := by
  have h : (BitVec.ofNat 32 j).sle (BitVec.ofNat 32 i) = decide (j ≤ i) := by
    rw [BitVec.sle_eq_decide, BitVec.toInt_ofNat', BitVec.toInt_ofNat', Int.bmod_eq_of_le (by omega) (by omega),
      Int.bmod_eq_of_le (by omega) (by omega)]
    simp
  show (if BitVec.ofBool ((BitVec.ofNat 32 j).sle (BitVec.ofNat 32 i)) = 1 then a else b) = _
  rw [h]
  by_cases hji : j ≤ i <;> simp [hji]

/-- The rounded-down quotient by 24 of a row's number, as the kernel computes it. -/
theorem div24 (y : Fin 768) : (Scalar.select
        (IntOp.andi
          (IntOp.cmpi CmpIPredicate.ne
            (IntOp.subi (BitVec.setWidth 32 (IntOp.cmpi CmpIPredicate.sgt (BitVec.ofNat 32 y.val) 0#32))
              (BitVec.setWidth 32 (IntOp.cmpi CmpIPredicate.slt (BitVec.ofNat 32 y.val) 0#32)))
            (Scalar.subi (Scalar.extui (Scalar.cmpi CmpIPredicate.sgt 24#32 0#32))
              (Scalar.extui (Scalar.cmpi CmpIPredicate.slt 24#32 0#32))))
          (IntOp.cmpi CmpIPredicate.ne (IntOp.remsi ArithUnit.vector (BitVec.ofNat 32 y.val) 24#32) 0#32))
        (IntOp.subi (IntOp.divsi ArithUnit.vector (BitVec.ofNat 32 y.val) 24#32) 1#32)
        (IntOp.divsi ArithUnit.vector (BitVec.ofNat 32 y.val) 24#32)) = BitVec.ofNat 32 (y.val / 24) := by
  revert y
  decide +kernel

/-- The rounded-down quotient by 64 of a column's number, as the kernel computes it. -/
theorem div64 (d : Fin 512) : (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 d.val) 64#32) 0#32))
        (IntOp.subi (IntOp.divsi ArithUnit.vector (BitVec.ofNat 32 d.val) 64#32) 1#32)
        (IntOp.divsi ArithUnit.vector (BitVec.ofNat 32 d.val) 64#32)) = BitVec.ofNat 32 (d.val / 64) := by
  revert d
  decide +kernel

/-- A one-hot factor is a choice. -/
theorem pick_word (v : EReal) (n : Fin 8) (x : Fin 8) :
    Scalar.select (IntOp.cmpi .eq (BitVec.ofNat 32 n.val) (BitVec.ofNat 32 x.val)) v 0 = if n = x then v else 0 := by
  have h : ∀ n x : Fin 8, (BitVec.ofBool (BitVec.ofNat 32 n.val == BitVec.ofNat 32 x.val) = 1) ↔ n = x := by decide
  exact if_congr (h n x) rfl rfl

/-! ## The constants -/

theorem scale_value : Named.named (F := Ideal) κ "scale" (φ := .f32) 0x3D93CD3A#32 = scale :=
  IdealRules.named_const.ideal_named_scalar _ _ _ _ rfl

/-- The named constant of the exponent's base is one over the logarithm of two. -/
theorem log2e_value : Named.named (F := Ideal) κ "log2e" (φ := .f32) 0x3FB8AA3B#32 = (((Real.log 2)⁻¹ : ℝ) : EReal) :=
  IdealRules.named_const.ideal_named_scalar _ _ _ _ rfl

/-- The named constant of the scores is the softmax scale over the logarithm of two. -/
theorem scale_log2e_value : Named.named (F := Ideal) κ "scale_log2e" (φ := .f32) 0x3DD53B95#32
    = (((Real.sqrt 192)⁻¹ * (Real.log 2)⁻¹ : ℝ) : EReal) :=
  IdealRules.named_const.ideal_named_scalar _ _ _ _ rfl

/-! ## The payloads -/

/-- The scaled latents: the block scale reaches its 64 columns through a product with a one-hot matrix. -/
theorem pay6_apply (a : Vec Ideal S1x896x8 .f32) (b : Vec Ideal S1x896x512 .fp8e4m3) (j : Fin 896) (d : Fin 512) :
    k0_pay6 (F := Ideal) a b (ix2 j d) = b (ix3 0 j d) * a (ix3 0 j ⟨d.val / 64, by omega⟩) := by
  pointwise [k0_pay6]
  refine congrArg (b (ix3 0 j d) * ·) ?_
  refine Eq.trans (Finset.sum_congr rfl fun x _ => ?_) (sum_pick (⟨d.val / 64, by omega⟩ : Fin 8) fun x => a (ix3 0 j x))
  refine Eq.trans (congrArg (fun z => Scalar.select (IntOp.cmpi .eq z (BitVec.ofNat 32 x.val)) (a (ix3 0 j x)) (0 : EReal)) (div64 d)) ?_
  exact pick_word _ (⟨d.val / 64, by omega⟩ : Fin 8) x

/-- The latent columns of the keys are stored as they are. -/
theorem pay15_apply (a : FVec Ideal S896x512 .bf16) (j : Fin 896) (d : Fin 512) : k0_pay15 (F := Ideal) a (ix2 j d) = a (ix2 j d) := by
  pointwise [k0_pay15]

/-- The positional columns of the keys are stored as they are. -/
theorem pay16_apply (a : Vec Ideal S1x896x64 .bf16) (j : Fin 896) (e : Fin 64) : k0_pay16 (F := Ideal) a (ix2 j e) = a (ix3 0 j e) := by
  pointwise [k0_pay16]

/-- The second copy of the keys is their transpose. -/
theorem pay17_apply (a : Vec Ideal S896x576 .bf16) (d : Fin 576) (j : Fin 896) : k0_pay17 (F := Ideal) a (ix2 d j) = a (ix2 j d) := by
  pointwise [k0_pay17]

/-- The gradient of the latents starts from zero. -/
theorem pay18_apply (j : Fin 896) (d : Fin 512) : k0_pay18 (F := Ideal) (ix3 0 j d) = 0 := by
  pointwise [k0_pay18]

/-- The gradient of the positional keys starts from zero. -/
theorem pay19_apply (j : Fin 896) (d : Fin 64) : k0_pay19 (F := Ideal) (ix3 0 j d) = 0 := by
  pointwise [k0_pay19]

/-- The gradient of a tile's queries starts from zero. -/
theorem pay29_apply (d : Fin 576) (y : Fin 768) : k0_pay29 (F := Ideal) (ix2 d y) = 0 := by
  pointwise [k0_pay29]

/-- The codes of a tile's queries, at an index. -/
theorem pay20_apply (a : Vec Ideal S1x768x576 .fp8e4m3) (y : Fin 768) (d : Fin 576) : k0_pay20 (F := Ideal) a (ix2 y d) = a (ix3 0 y d) := by
  pointwise [k0_pay20]

/-- The codes of a tile's gradient of the output, at an index. -/
theorem pay21_apply (a : Vec Ideal S1x768x512 .fp8e5m2) (y : Fin 768) (d : Fin 512) : k0_pay21 (F := Ideal) a (ix2 y d) = a (ix3 0 y d) := by
  pointwise [k0_pay21]

/-- The scales of a tile's queries, at an index. -/
theorem pay22_apply (a : Vec Ideal S1x1x1x768 .f32) (y : Fin 768) : k0_pay22 (F := Ideal) a (ix2 0 y) = a (ix4 0 0 0 y) := by
  pointwise [k0_pay22]

/-- The scales of a tile's gradient of the output, at an index. -/
theorem pay23_apply (a : Vec Ideal S1x1x1x768 .f32) (y : Fin 768) : k0_pay23 (F := Ideal) a (ix2 0 y) = a (ix4 0 0 0 y) := by
  pointwise [k0_pay23]

/-- The factor of the scores in base two. -/
theorem pay24_apply (a : Vec Ideal S1x1x1x768 .f32) (y : Fin 768) : k0_pay24 (F := Ideal) a (ix2 0 y)
    = a (ix4 0 0 0 y) * (((Real.sqrt 192)⁻¹ * (Real.log 2)⁻¹ : ℝ) : EReal) := by
  pointwise [k0_pay24]
  exact congrArg₂ (· * ·) (pay22_apply a y) scale_log2e_value

/-- The normaliser in base two. -/
theorem pay25_apply (a : Vec Ideal S1x1x1x768 .f32) (y : Fin 768) : k0_pay25 (F := Ideal) a (ix2 0 y)
    = a (ix4 0 0 0 y) * (((Real.log 2)⁻¹ : ℝ) : EReal) := by
  pointwise [k0_pay25]
  exact congrArg (_ * ·) log2e_value

/-- The row sums, taken in four quarters. -/
theorem pay26_apply (a : Vec Ideal S1x768x512 .fp8e5m2) (b : Vec Ideal S1x768x512 .bf16) (y : Fin 768) :
    k0_pay26 (F := Ideal) a b (ix1 y) = ∑ d : Fin 512, a (ix3 0 y d) * b (ix3 0 y d) := by
  pointwise [k0_pay26]
  refine Eq.trans (sum_quarters fun d => k0_pay21 (F := Ideal) a (ix2 y d) * b (ix3 0 y d)) ?_
  exact Finset.sum_congr rfl fun d _ => congrArg (· * b (ix3 0 y d)) (pay21_apply a y d)

/-- The row sums are scaled after the summation. -/
theorem pay27_apply (a : FVec Ideal S1x768 .f32) (b : FVec Ideal S768 .f32) (y : Fin 768) :
    k0_pay27 (F := Ideal) a b (ix2 0 y) = b (ix1 y) * a (ix2 0 y) := by
  pointwise [k0_pay27]

/-- The tokens of a tile's rows. -/
theorem pay28_apply (t : ℕ) (y : Fin 768) : k0_pay28 (BitVec.ofNat 32 t) (ix2 0 y) = BitVec.ofNat 32 (32 * t + y.val / 24) := by
  pointwise [k0_pay28]
  refine Eq.trans (congrArg (IntOp.addi _) (div24 y)) ?_
  rw [BitVec.ofNat_add, Nat.mul_comm 32 t, BitVec.ofNat_mul]
  rfl

/-! ## The three quantities, at a point's blocks -/

/-- The keys a batch holds in scratch. -/
def keyE (x2 : Vec Ideal S1x896x512 .fp8e4m3) (x3 : Vec Ideal S1x896x8 .f32) (x4 : Vec Ideal S1x896x64 .bf16)
    (j : Fin 896) (d : Fin 576) : EReal :=
  if h : d.val < 512 then x2 (ix3 0 j ⟨d.val, h⟩) * x3 (ix3 0 j ⟨d.val / 64, by omega⟩) else x4 (ix3 0 j ⟨d.val - 512, by omega⟩)

/-- Row `r` of a point's block of row scales. -/
def rowB (x0 : Vec Ideal S1x1x3x768 .f32) (r : Fin 3) : Vec Ideal S1x1x1x768 .f32 := fun y => x0 (ix4 0 0 r (y 3))

variable (K : Vec Ideal S896x576 .bf16) (x0 : Vec Ideal S1x1x3x768 .f32) (x1 : Vec Ideal S1x768x576 .fp8e4m3)
  (x5 : Vec Ideal S1x768x512 .bf16) (x6 : Vec Ideal S1x768x512 .fp8e5m2) (t : ℕ)

/-- The probability of key `j` at row `y` of tile `t`. -/
def pB (j : Fin 896) (y : Fin 768) : EReal :=
  pE K (k0_pay20 (F := Ideal) x1) (k0_pay24 (F := Ideal) (rowB x0 0)) (k0_pay25 (F := Ideal) (rowB x0 1)) (k0_pay28 (BitVec.ofNat 32 t)) j y

/-- The gradient of the score of key `j` at row `y` of tile `t`. -/
def dsB (j : Fin 896) (y : Fin 768) : EReal :=
  dsE K (k0_pay20 (F := Ideal) x1) (k0_pay21 (F := Ideal) x6) (k0_pay23 (F := Ideal) (rowB x0 2)) (k0_pay24 (F := Ideal) (rowB x0 0))
    (k0_pay25 (F := Ideal) (rowB x0 1)) (k0_pay27 (F := Ideal) (k0_pay23 (F := Ideal) (rowB x0 2)) (k0_pay26 (F := Ideal) x6 x5)) (k0_pay28 (BitVec.ofNat 32 t)) j y

/-- What a point adds to the latents' gradient. -/
def dcB (j : Fin 896) (d : Fin 512) : EReal :=
  dcE K (k0_pay20 (F := Ideal) x1) (k0_pay21 (F := Ideal) x6) (k0_pay22 (F := Ideal) (rowB x0 0)) (k0_pay23 (F := Ideal) (rowB x0 2)) (k0_pay24 (F := Ideal) (rowB x0 0))
    (k0_pay25 (F := Ideal) (rowB x0 1)) (k0_pay27 (F := Ideal) (k0_pay23 (F := Ideal) (rowB x0 2)) (k0_pay26 (F := Ideal) x6 x5)) (k0_pay28 (BitVec.ofNat 32 t)) j d

/-- What a point adds to the positional keys' gradient. -/
def drB (j : Fin 896) (e : Fin 64) : EReal :=
  drE K (k0_pay20 (F := Ideal) x1) (k0_pay21 (F := Ideal) x6) (k0_pay22 (F := Ideal) (rowB x0 0)) (k0_pay23 (F := Ideal) (rowB x0 2)) (k0_pay24 (F := Ideal) (rowB x0 0))
    (k0_pay25 (F := Ideal) (rowB x0 1)) (k0_pay27 (F := Ideal) (k0_pay23 (F := Ideal) (rowB x0 2)) (k0_pay26 (F := Ideal) x6 x5)) (k0_pay28 (BitVec.ofNat 32 t)) j e

/-- The probability, spelled out. -/
theorem pB_eq (ht : t < 28) (j : Fin 896) (y : Fin 768) : pB K x0 x1 t j y
    = if j.val ≤ 32 * t + y.val / 24 then
        Ideal.exp (scale * ((∑ d : Fin 576, x1 (ix3 0 y d) * K (ix2 j d)) * x0 (ix4 0 0 0 y)) - x0 (ix4 0 0 1 y)) else 0 := by
  unfold pB pE
  rw [pay28_apply, select_le (by omega) (by omega), pay24_apply, pay25_apply]
  refine if_congr Iff.rfl ?_ rfl
  refine Eq.trans (exp2_scores _ _ _) ?_
  have h : stE K (k0_pay20 (F := Ideal) x1) j y = ∑ d : Fin 576, x1 (ix3 0 y d) * K (ix2 j d) :=
    Finset.sum_congr rfl fun d _ => by rw [pay20_apply, mul_comm]
  rw [h]
  rfl

/-- The gradient of a score, spelled out. -/
theorem dsB_eq (h0 : ∀ y, 0 ≤ x0 (ix4 0 0 2 y)) (h1 : ∀ y, x0 (ix4 0 0 2 y) ≠ ⊤) (j : Fin 896) (y : Fin 768) :
    dsB K x0 x1 x5 x6 t j y
      = scale * (pB K x0 x1 t j y * ((∑ d : Fin 512, x6 (ix3 0 y d) * K (ix2 j ⟨d.val, by omega⟩)) * x0 (ix4 0 0 2 y)
          - ∑ d : Fin 512, x6 (ix3 0 y d) * x0 (ix4 0 0 2 y) * x5 (ix3 0 y d))) := by
  unfold dsB dsE
  rw [scale_value, pay27_apply, pay26_apply, pay23_apply]
  have h : (∑ x : Fin 512, K (ix2 j ⟨x.val, by omega⟩) * k0_pay21 (F := Ideal) x6 (ix2 y x))
      = ∑ d : Fin 512, x6 (ix3 0 y d) * K (ix2 j ⟨d.val, by omega⟩) :=
    Finset.sum_congr rfl fun d _ => by rw [pay21_apply, mul_comm]
  rw [h]
  refine congrArg (fun z => scale * (pB K x0 x1 t j y * ((∑ d : Fin 512, x6 (ix3 0 y d) * K (ix2 j ⟨d.val, by omega⟩)) * x0 (ix4 0 0 2 y) - z))) ?_
  exact delta_scale _ _ (h0 y) (h1 y)

/-- A key after every token of the tile has probability zero. -/
theorem pB_masked (ht : t < 28) (j : Fin 896) (y : Fin 768) (h : 32 * t + 32 ≤ j.val) : pB K x0 x1 t j y = 0 := by
  rw [pB_eq _ _ _ _ ht, if_neg (by omega)]

/-- The score of a key after every token of the tile has gradient zero. -/
theorem dsB_masked (ht : t < 28) (j : Fin 896) (y : Fin 768) (h : 32 * t + 32 ≤ j.val) : dsB K x0 x1 x5 x6 t j y = 0 := by
  have hp := pB_masked K x0 x1 t ht j y h
  unfold pB at hp
  unfold dsB dsE
  rw [hp, zero_mul, mul_zero]

/-- What a point adds to the gradient of the latents, spelled out. -/
theorem dcB_eq (j : Fin 896) (d : Fin 512) : dcB K x0 x1 x5 x6 t j d
    = (∑ y : Fin 768, dsB K x0 x1 x5 x6 t j y * (x1 (ix3 0 y ⟨d.val, by omega⟩) * x0 (ix4 0 0 0 y)))
      + ∑ y : Fin 768, pB K x0 x1 t j y * (x6 (ix3 0 y d) * x0 (ix4 0 0 2 y)) := by
  unfold dcB dcE
  refine congrArg₂ (· + ·) (Finset.sum_congr rfl fun y _ => ?_) (Finset.sum_congr rfl fun y _ => ?_)
  · rw [pay22_apply, pay20_apply, mul_assoc, mul_comm (rowB x0 0 _)]; rfl
  · rw [pay23_apply, pay21_apply, mul_assoc, mul_comm (rowB x0 2 _)]; rfl

/-- What a point adds to the gradient of the positional keys, spelled out. -/
theorem drB_eq (j : Fin 896) (e : Fin 64) : drB K x0 x1 x5 x6 t j e
    = ∑ y : Fin 768, dsB K x0 x1 x5 x6 t j y * (x1 (ix3 0 y ⟨512 + e.val, by omega⟩) * x0 (ix4 0 0 0 y)) := by
  unfold drB drE
  refine Finset.sum_congr rfl fun y _ => ?_
  rw [pay22_apply, pay20_apply, mul_assoc, mul_comm (rowB x0 0 _)]; rfl

/-- A point adds zero to the gradient of a latent after every token of the tile. -/
theorem dcB_masked (ht : t < 28) (j : Fin 896) (d : Fin 512) (h : 32 * t + 32 ≤ j.val) : dcB K x0 x1 x5 x6 t j d = 0 := by
  rw [dcB_eq]
  simp only [dsB_masked K x0 x1 x5 x6 t ht j _ h, pB_masked K x0 x1 t ht j _ h, zero_mul, Finset.sum_const_zero, add_zero]

/-- A point adds zero to the gradient of a positional key after every token of the tile. -/
theorem drB_masked (ht : t < 28) (j : Fin 896) (e : Fin 64) (h : 32 * t + 32 ≤ j.val) : drB K x0 x1 x5 x6 t j e = 0 := by
  rw [drB_eq]
  simp only [dsB_masked K x0 x1 x5 x6 t ht j _ h, zero_mul, Finset.sum_const_zero]

end Cert.KernelIdeal.Value

end
-- ==== Proof.Trip.lean ====
/-
  The key loop of one grid point, read element by element over the extended reals.

  One trip stores three rectangles: 128 rows of the latent gradient, 128 rows of the positional gradient, and the
  whole transposed query gradient. After `n` trips the first `128 n` keys have received this point's share and the
  query gradient is the sum over those keys (`loop10`, `loop11`, `loop14`, by induction on `n`).
-/
module

public import proofs.«01_k».proof.Proof.Payloads
public import proofs.«01_k».proof.Proof.Gen.KernelIdeal.Loops
public import Idealize.ShloMosaic.Lib.Pipeline.Value
public import Idealize.ShloMosaic.Lib.Tactic
public import Idealize.ShloMosaic.Lib.VecWindow

@[expose] public section

set_option maxRecDepth 16384

noncomputable section

namespace Cert.KernelIdeal.Value

open Idealize.ShloMosaic Idealize.ShloMosaic.TcCoe Idealize.SL.Sem
open Cert.KernelIdeal Cert.KernelIdeal.Gen

/-- The word of a trip's first key. -/
theorem off_word {n : ℕ} (hn : n < 7) :
    (Scalar.indexCast (Scalar.muli (Scalar.addi (0#32) (Scalar.muli (Scf.iv 0#32 1#32 n) 1#32)) 128#32)).toNat = 128 * n := by
  interval_cases n <;> rfl

/-- A trip reads the keys from its first key on. -/
theorem off1 (i : grid0.Coords) (k : Fin (k0_t1_loop i).trips) : k0_off1 i k = ![128 * k.val, 0] :=
  congrArg (fun z => (![z, 0] : Fin _ → ℕ)) (off_word (Nat.lt_of_lt_of_le k.isLt (k0_t1_abs i).2.1))

/-- A trip updates the gradient of the latents from its first key on. -/
theorem off2 (i : grid0.Coords) (k : Fin (k0_t1_loop i).trips) : k0_off2 i k = ![0, 128 * k.val, 0] :=
  congrArg (fun z => (![0, z, 0] : Fin _ → ℕ)) (off_word (Nat.lt_of_lt_of_le k.isLt (k0_t1_abs i).2.1))

/-- A trip updates the gradient of the positional keys from its first key on. -/
theorem off3 (i : grid0.Coords) (k : Fin (k0_t1_loop i).trips) : k0_off3 i k = ![0, 128 * k.val, 0] :=
  congrArg (fun z => (![0, z, 0] : Fin _ → ℕ)) (off_word (Nat.lt_of_lt_of_le k.isLt (k0_t1_abs i).2.1))

/-- A trip reads the columns of the transposed keys from its first key on. -/
theorem off4 (i : grid0.Coords) (k : Fin (k0_t1_loop i).trips) : k0_off4 i k = ![0, 128 * k.val] :=
  congrArg (fun z => (![0, z] : Fin _ → ℕ)) (off_word (Nat.lt_of_lt_of_le k.isLt (k0_t1_abs i).2.1))

/-- The point of tile `t` visits the key blocks up to the one that holds its last token. -/
theorem trips1 (i : grid0.Coords) : (k0_t1_loop i).trips = (i 1).val / 4 + 1 := by
  have h : (i 1).val < 28 := (i 1).isLt
  unfold k0_t1_loop
  generalize (i 1).val = n at h ⊢
  interval_cases n <;> rfl

/-- A load of 128 rows of the keys reads those rows. -/
theorem readAt12 {v : View sig .tc .vmem S896x576 .bf16} (X : v.ty.Contents (Elt Ideal)) (off : Fin 2 → ℕ) (n : ℕ)
    (h : off = ![128 * n, 0]) (inb : ∀ a, off a + S128x576.size a ≤ S896x576.size a) :
    IsRows (v.read (Elt Ideal) X) n (v.readAt (Elt Ideal) (Rect.unit (s := S896x576) off S128x576.size inb).toLoadRect X) := by
  subst h
  intro r d hr
  refine congrArg (v.read (Elt Ideal) X) ?_
  funext a; apply Fin.ext; fin_cases a
  · show 128 * n + 1 * r.val = 128 * n + r.val; omega
  · show 0 + 1 * d.val = d.val; omega

/-- A load of 128 columns of the transposed keys reads those columns. -/
theorem readAt13 {v : View sig .tc .vmem S576x896 .bf16} (X : v.ty.Contents (Elt Ideal)) (off : Fin 2 → ℕ) (n : ℕ)
    (h : off = ![0, 128 * n]) (inb : ∀ a, off a + S576x128.size a ≤ S576x896.size a) (d : Fin 576) (r : Fin 128) (hr : 128 * n + r.val < 896) :
    v.readAt (Elt Ideal) (Rect.unit (s := S576x896) off S576x128.size inb).toLoadRect X (ix2 d r)
      = v.read (Elt Ideal) X (ix2 d ⟨128 * n + r.val, hr⟩) := by
  subst h
  refine congrArg (v.read (Elt Ideal) X) ?_
  funext a; apply Fin.ext; fin_cases a
  · show 0 + 1 * d.val = d.val; omega
  · show 128 * n + 1 * r.val = 128 * n + r.val; omega

/-- A load of 128 rows of the latent gradient reads those rows. -/
theorem readAt10 {v : View sig .tc .vmem S1x896x512 .f32} (X : v.ty.Contents (Elt Ideal)) (off : Fin 3 → ℕ) (n : ℕ)
    (h : off = ![0, 128 * n, 0]) (inb : ∀ a, off a + S1x128x512.size a ≤ S1x896x512.size a) (r : Fin 128) (d : Fin 512) (hr : 128 * n + r.val < 896) :
    v.readAt (Elt Ideal) (Rect.unit (s := S1x896x512) off S1x128x512.size inb).toLoadRect X (ix3 0 r d)
      = v.read (Elt Ideal) X (ix3 0 ⟨128 * n + r.val, hr⟩ d) := by
  subst h
  refine congrArg (v.read (Elt Ideal) X) ?_
  funext a; apply Fin.ext; fin_cases a
  · rfl
  · show 128 * n + 1 * r.val = 128 * n + r.val; omega
  · show 0 + 1 * d.val = d.val; omega

/-- A load of 128 rows of the positional gradient reads those rows. -/
theorem readAt11 {v : View sig .tc .vmem S1x896x64 .f32} (X : v.ty.Contents (Elt Ideal)) (off : Fin 3 → ℕ) (n : ℕ)
    (h : off = ![0, 128 * n, 0]) (inb : ∀ a, off a + S1x128x64.size a ≤ S1x896x64.size a) (r : Fin 128) (d : Fin 64) (hr : 128 * n + r.val < 896) :
    v.readAt (Elt Ideal) (Rect.unit (s := S1x896x64) off S1x128x64.size inb).toLoadRect X (ix3 0 r d)
      = v.read (Elt Ideal) X (ix3 0 ⟨128 * n + r.val, hr⟩ d) := by
  subst h
  refine congrArg (v.read (Elt Ideal) X) ?_
  funext a; apply Fin.ext; fin_cases a
  · rfl
  · show 128 * n + 1 * r.val = 128 * n + r.val; omega
  · show 0 + 1 * d.val = d.val; omega

/-- The rectangles one trip stores. -/
theorem trip_pieces (𝒱 : Variants) (c : Dev nD) (bd : Option 𝒱.V) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole) (v4 : FVec Ideal S768x576 .fp8e4m3) (v6 : FVec Ideal S768x512 .fp8e5m2) (v8 : FVec Ideal S1x768 .f32) (v12 : FVec Ideal S1x768 .f32) (v14 : FVec Ideal S1x768 .f32) (v16 : FVec Ideal S1x768 .f32) (v32 : FVec Ideal S1x768 .f32) (v60 : IVec S1x768 32) (X12 : BufTy.Contents (Elt Ideal) arg12.view.ty) (X13 : BufTy.Contents (Elt Ideal) arg13.view.ty)
    (k : Fin (k0_t1_loop i).trips) (f10 : BufTy.Contents (Elt Ideal) arg10.view.ty) (f11 : BufTy.Contents (Elt Ideal) arg11.view.ty) (f14 : BufTy.Contents (Elt Ideal) arg14.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 k f10 f11 f14
      = ([⟨Rect.unit (s := S1x896x512) (k0_off2 i k) S1x128x512.size (k0_off2_inb i k),
            k0_pay10 i v4 v6 v8 v12 v14 v16 v32 v60 1#32 0#32 0#32 1#32 k
              (arg12.view.readAt (Elt Ideal) (Rect.unit (s := S896x576) (k0_off1 i k) S128x576.size (k0_off1_inb i k)).toLoadRect X12)
              (arg10.view.readAt (Elt Ideal) (Rect.unit (s := S1x896x512) (k0_off2 i k) S1x128x512.size (k0_off2_inb i k)).toLoadRect f10)⟩],
         [⟨Rect.unit (s := S1x896x64) (k0_off3 i k) S1x128x64.size (k0_off3_inb i k),
            k0_pay1 v4 (k0_pay9 i v4 v6 v8 v12 v14 v16 v32 v60 1#32 0#32 0#32 1#32 k
              (arg12.view.readAt (Elt Ideal) (Rect.unit (s := S896x576) (k0_off1 i k) S128x576.size (k0_off1_inb i k)).toLoadRect X12))
              (arg11.view.readAt (Elt Ideal) (Rect.unit (s := S1x896x64) (k0_off3 i k) S1x128x64.size (k0_off3_inb i k)).toLoadRect f11)⟩],
         [⟨Rect.unit (s := S576x768) ![0, 0] S576x768.size inb_S576x768_S576x768_0_0,
            k0_pay2 (k0_pay8 i v4 v6 v12 v14 v16 v32 v60 1#32 0#32 0#32 1#32 k
              (arg12.view.readAt (Elt Ideal) (Rect.unit (s := S896x576) (k0_off1 i k) S128x576.size (k0_off1_inb i k)).toLoadRect X12))
              (arg14.view.readAt (Elt Ideal) (Rect.unit (s := S576x768) ![0, 0] S576x768.size inb_S576x768_S576x768_0_0).toLoadRect f14)
              (arg13.view.readAt (Elt Ideal) (Rect.unit (s := S576x896) (k0_off4 i k) S576x128.size (k0_off4_inb i k)).toLoadRect X13)⟩]) := by
  unfold tripL_k0_t1 trip_k0_t1
  dsimp only
  sl_unfold_words
  rfl

/-- After `n` trips the first `128 n` keys have received this point's share. -/
theorem loop10 (𝒱 : Variants) (c : Dev nD) (bd : Option 𝒱.V) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole) (v4 : FVec Ideal S768x576 .fp8e4m3) (v6 : FVec Ideal S768x512 .fp8e5m2) (v8 : FVec Ideal S1x768 .f32) (v12 : FVec Ideal S1x768 .f32) (v14 : FVec Ideal S1x768 .f32) (v16 : FVec Ideal S1x768 .f32) (v32 : FVec Ideal S1x768 .f32) (v60 : IVec S1x768 32) (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty) :
    ∀ n : ℕ, n ≤ (k0_t1_loop i).trips → ∀ (j : Fin 896) (d : Fin 512),
      arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 n).1) (ix3 0 j d)
        = arg10.view.read (Elt Ideal) f10 (ix3 0 j d) + (if j.val < 128 * n then dcE (arg12.view.read (Elt Ideal) X12) v4 v6 v8 v12 v14 v16 v32 v60 j d else 0)
  | 0, _, j, d => by
    rw [if_neg (by omega), add_zero]; rfl
  | n + 1, hn, j, d => by
    have h7 : n < 7 := Nat.lt_of_lt_of_le hn (k0_t1_abs i).2.1
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 ⟨n, hn⟩, trip_pieces]
    have ih := loop10 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 n (Nat.le_of_succ_le hn)
    by_cases hj : 128 * n ≤ j.val ∧ j.val < 128 * n + 128
    · obtain ⟨r, hr, rfl⟩ : ∃ (r : Fin 128) (hr : 128 * n + r.val < 896), j = ⟨128 * n + r.val, hr⟩ := ⟨⟨j.val - 128 * n, by omega⟩, by show 128 * n + (j.val - 128 * n) < 896; omega, Fin.ext (by show j.val = 128 * n + (j.val - 128 * n); omega)⟩
      refine (View.read_writes_cons_unit_of_mem arg10.view f10 _ _ _ _ (ix3 0 r d) (off2 i ⟨n, hn⟩) ?_).trans ?_
      · intro a; fin_cases a
        · rfl
        · rfl
        · show d.val = 0 + d.val; omega
      refine (pay10_apply i v4 v6 v8 v12 v14 v16 v32 v60 ⟨n, hn⟩ h7 _ _ (readAt12 X12 _ n (off1 i ⟨n, hn⟩) _) _ r d).trans ?_
      rw [readAt10 _ _ n (off2 i ⟨n, hn⟩) _ r d hr, ih, if_neg (by show ¬ 128 * n + r.val < 128 * n; omega), add_zero,
        if_pos (by show 128 * n + r.val < 128 * (n + 1); omega)]
    · refine (View.read_writes_cons_unit_of_not_mem arg10.view f10 _ _ _ _ (off2 i ⟨n, hn⟩) 1 ?_).trans ?_
      · show j.val < 128 * n ∨ 128 * n + 128 ≤ j.val
        omega
      · refine (ih j d).trans (congrArg (_ + ·) ?_)
        by_cases h1 : j.val < 128 * n
        · rw [if_pos h1, if_pos (by omega)]
        · rw [if_neg h1, if_neg (by omega)]

/-- After `n` trips the first `128 n` keys have received this point's share. -/
theorem loop11 (𝒱 : Variants) (c : Dev nD) (bd : Option 𝒱.V) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole) (v4 : FVec Ideal S768x576 .fp8e4m3) (v6 : FVec Ideal S768x512 .fp8e5m2) (v8 : FVec Ideal S1x768 .f32) (v12 : FVec Ideal S1x768 .f32) (v14 : FVec Ideal S1x768 .f32) (v16 : FVec Ideal S1x768 .f32) (v32 : FVec Ideal S1x768 .f32) (v60 : IVec S1x768 32) (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty) :
    ∀ n : ℕ, n ≤ (k0_t1_loop i).trips → ∀ (j : Fin 896) (d : Fin 64),
      arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 n).2.1) (ix3 0 j d)
        = arg11.view.read (Elt Ideal) f11 (ix3 0 j d) + (if j.val < 128 * n then drE (arg12.view.read (Elt Ideal) X12) v4 v6 v8 v12 v14 v16 v32 v60 j d else 0)
  | 0, _, j, d => by
    rw [if_neg (by omega), add_zero]; rfl
  | n + 1, hn, j, d => by
    have h7 : n < 7 := Nat.lt_of_lt_of_le hn (k0_t1_abs i).2.1
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 ⟨n, hn⟩, trip_pieces]
    have ih := loop11 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 n (Nat.le_of_succ_le hn)
    by_cases hj : 128 * n ≤ j.val ∧ j.val < 128 * n + 128
    · obtain ⟨r, hr, rfl⟩ : ∃ (r : Fin 128) (hr : 128 * n + r.val < 896), j = ⟨128 * n + r.val, hr⟩ := ⟨⟨j.val - 128 * n, by omega⟩, by show 128 * n + (j.val - 128 * n) < 896; omega, Fin.ext (by show j.val = 128 * n + (j.val - 128 * n); omega)⟩
      refine (View.read_writes_cons_unit_of_mem arg11.view f11 _ _ _ _ (ix3 0 r d) (off3 i ⟨n, hn⟩) ?_).trans ?_
      · intro a; fin_cases a
        · rfl
        · rfl
        · show d.val = 0 + d.val; omega
      refine (pay1_apply i v4 v6 v8 v12 v14 v16 v32 v60 ⟨n, hn⟩ h7 _ _ (readAt12 X12 _ n (off1 i ⟨n, hn⟩) _) _ r d).trans ?_
      rw [readAt11 _ _ n (off3 i ⟨n, hn⟩) _ r d hr, ih, if_neg (by show ¬ 128 * n + r.val < 128 * n; omega), add_zero,
        if_pos (by show 128 * n + r.val < 128 * (n + 1); omega)]
    · refine (View.read_writes_cons_unit_of_not_mem arg11.view f11 _ _ _ _ (off3 i ⟨n, hn⟩) 1 ?_).trans ?_
      · show j.val < 128 * n ∨ 128 * n + 128 ≤ j.val
        omega
      · refine (ih j d).trans (congrArg (_ + ·) ?_)
        by_cases h1 : j.val < 128 * n
        · rw [if_pos h1, if_pos (by omega)]
        · rw [if_neg h1, if_neg (by omega)]

/-- The first `128 (n + 1)` of 896 terms are the first `128 n` and the next 128. -/
theorem sum_next (f : Fin 896 → EReal) {n : ℕ} (hn : n < 7) :
    (∑ j : Fin 896, if j.val < 128 * (n + 1) then f j else 0)
      = (∑ j : Fin 896, if j.val < 128 * n then f j else 0) + ∑ r : Fin 128, f ⟨128 * n + r.val, by omega⟩ := by
  have key : ∀ m ≤ 896, (∑ j : Fin 896, if j.val < m then f j else 0)
      = ∑ j ∈ Finset.range m, if h : j < 896 then f ⟨j, h⟩ else 0 := by
    intro m hm
    have h1 : (∑ j : Fin 896, if j.val < m then f j else 0)
        = ∑ j ∈ Finset.range 896, if j < m then (if h : j < 896 then f ⟨j, h⟩ else 0) else 0 := by
      rw [← Fin.sum_univ_eq_sum_range (fun j => if j < m then (if h : j < 896 then f ⟨j, h⟩ else 0) else 0) 896]
      refine Finset.sum_congr rfl fun j _ => ?_
      rw [dif_pos j.isLt]
    rw [h1, ← Finset.sum_filter]
    refine Finset.sum_congr ?_ fun _ _ => rfl
    ext j; simp only [Finset.mem_filter, Finset.mem_range]; omega
  rw [key _ (by omega), key _ (by omega), show 128 * (n + 1) = 128 * n + 128 by ring, Finset.sum_range_add,
    ← Fin.sum_univ_eq_sum_range (fun j => if h : 128 * n + j < 896 then f ⟨128 * n + j, h⟩ else 0) 128]
  refine congrArg (_ + ·) (Finset.sum_congr rfl fun r _ => ?_)
  rw [dif_pos (by omega)]

/-- After `n` trips the transposed query gradient has received the first `128 n` keys. -/
theorem loop14 (𝒱 : Variants) (c : Dev nD) (bd : Option 𝒱.V) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole) (v4 : FVec Ideal S768x576 .fp8e4m3) (v6 : FVec Ideal S768x512 .fp8e5m2) (v8 : FVec Ideal S1x768 .f32) (v12 : FVec Ideal S1x768 .f32) (v14 : FVec Ideal S1x768 .f32) (v16 : FVec Ideal S1x768 .f32) (v32 : FVec Ideal S1x768 .f32) (v60 : IVec S1x768 32) (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty) :
    ∀ n : ℕ, n ≤ (k0_t1_loop i).trips → ∀ (d : Fin 576) (y : Fin 768),
      arg14.view.read (Elt Ideal) (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 n).2.2) (ix2 d y)
        = arg14.view.read (Elt Ideal) f14 (ix2 d y)
          + ∑ j : Fin 896, if j.val < 128 * n then arg13.view.read (Elt Ideal) X13 (ix2 d j) * dsE (arg12.view.read (Elt Ideal) X12) v4 v6 v12 v14 v16 v32 v60 j y else 0
  | 0, _, d, y => by
    rw [Finset.sum_eq_zero fun j _ => if_neg (by omega), add_zero]; rfl
  | n + 1, hn, d, y => by
    have h7 : n < 7 := Nat.lt_of_lt_of_le hn (k0_t1_abs i).2.1
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 ⟨n, hn⟩, trip_pieces]
    have ih := loop14 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 X12 X13 f10 f11 f14 n (Nat.le_of_succ_le hn)
    refine (congrFun (View.read_writes_full arg14.view f14 _ _ _) (ix2 d y)).trans ?_
    refine (pay2_apply i v4 v6 v12 v14 v16 v32 v60 ⟨n, hn⟩ h7 _ _ (readAt12 X12 _ n (off1 i ⟨n, hn⟩) _) _ _ d y).trans ?_
    rw [View.readAt_full, ih, sum_next _ h7, add_assoc]
    refine congrArg (_ + ·) (congrArg (_ + ·) (Finset.sum_congr rfl fun r _ => ?_))
    rw [readAt13 _ _ n (off4 i ⟨n, hn⟩) _ d r (by omega)]

end Cert.KernelIdeal.Value
end
-- ==== Proof.Point.lean ====
/-
  What one grid point's key loop leaves, in terms of the point's own blocks: the loop stops at the last key a token of the
  tile may see, and the keys after it would add nothing, so the sums run over all the keys.
-/
module

public import proofs.«01_k».proof.Proof.Rows
public import proofs.«01_k».proof.Proof.Trip
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen
set_option maxRecDepth 16384

/-- The remainder loop makes no trip. -/
theorem no_rest (𝒱 : Variants) (c : Dev nD) (bd : Option 𝒱.V) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (v4 : FVec Ideal S768x576 .fp8e4m3) (v6 : FVec Ideal S768x512 .fp8e5m2) (v8 : FVec Ideal S1x768 .f32) (v12 : FVec Ideal S1x768 .f32) (v14 : FVec Ideal S1x768 .f32) (v16 : FVec Ideal S1x768 .f32) (v32 : FVec Ideal S1x768 .f32) (v60 : IVec S1x768 32)  (v92 : BitVec 32)
    (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty) :
    ∀ n : ℕ, pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 v92 X12 X13 f10 f11 f14 n = ([], [], [])
  | 0 => rfl
  | n + 1 => by
    rw [pb_k0_t2.eq_2]
    unfold pb_k0_t2Step
    rw [dif_neg (by have := (k0_t2_abs i).2.1; omega)]
    exact no_rest 𝒱 c bd i arg2 harg2 arg3 harg3 arg4 harg4 arg5 harg5 arg6 harg6 arg7 harg7 arg8 harg8 arg9 harg9 arg10 harg10 arg11 harg11 arg12 harg12 arg13 harg13 arg14 harg14 v4 v6 v8 v12 v14 v16 v32 v60 v92 X12 X13 f10 f11 f14 n

/-- A load of a whole buffer that holds `X` reads `X`. -/
theorem readAt_unread {s : Shape} {e : EltTy} {m : Memref sig .tc .vmem s e} (h : m.IsWhole) (X : Vec Ideal s e) {off : Fin s.rank → ℕ}
    (inb : ∀ a, off a + s.size a ≤ s.size a) :
    m.view.readAt (Elt Ideal) (Rect.unit (s := s) off s.size inb).toLoadRect (h.unread X) = X :=
  (View.readAt_full _ _ _).trans (h.read_unread X)

/-- A load of one row of the row scales. -/
theorem readAt_row {m : Memref sig .tc .vmem S1x1x3x768 .f32} (h : m.IsWhole) (x0 : Vec Ideal S1x1x3x768 .f32) (r : Fin 3)
    (inb : ∀ a, (![0, 0, r.val, 0] : Fin 4 → ℕ) a + S1x1x1x768.size a ≤ S1x1x3x768.size a) :
    m.view.readAt (Elt Ideal) (Rect.unit (s := S1x1x3x768) ![0, 0, r.val, 0] S1x1x1x768.size inb).toLoadRect (h.unread x0) = rowB x0 r := by
  rw [View.readAt_eq_ld, h.read_unread]
  funext y
  refine congrArg x0 (funext fun a => Fin.ext ?_)
  have y0 : (y 0).val < 1 := (y 0).isLt
  have y1 : (y 1).val < 1 := (y 1).isLt
  have y2 : (y 2).val < 1 := (y 2).isLt
  fin_cases a
  · show 0 + 1 * (y 0).val = 0
    omega
  · show 0 + 1 * (y 1).val = 0
    omega
  · show r.val + 1 * (y 2).val = r.val
    omega
  · show 0 + 1 * (y 3).val = (y 3).val
    omega

/-- A point adds its tile's part to the latents' gradient. -/
theorem point10 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (x0 : Vec Ideal S1x1x3x768 .f32) (x1 : Vec Ideal S1x768x576 .fp8e4m3) (x5 : Vec Ideal S1x768x512 .bf16) (x6 : Vec Ideal S1x768x512 .fp8e5m2)
    (a1 : Vec Ideal S1x768x576 .fp8e4m3) (a6 a6' : Vec Ideal S1x768x512 .fp8e5m2) (a5 : Vec Ideal S1x768x512 .bf16) (r8 r14 r16 r12 r32 : Vec Ideal S1x1x1x768 .f32)
    (h1 : a1 = x1) (h6 : a6 = x6) (h6' : a6' = x6) (h5 : a5 = x5) (h8 : r8 = rowB x0 0) (h14 : r14 = rowB x0 0) (h16 : r16 = rowB x0 1) (h12 : r12 = rowB x0 2) (h32 : r32 = rowB x0 2)
    (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty)
    (n : ℕ) (hn : n = (k0_t1_loop i).trips) (j : Fin 896) (d : Fin 512) :
    arg10.view.read (Elt Ideal) (arg10.view.writes (Elt Ideal) f10 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (k0_pay20 (F := Ideal) a1) (k0_pay21 (F := Ideal) a6) (k0_pay22 (F := Ideal) r8) (k0_pay23 (F := Ideal) r12) (k0_pay24 (F := Ideal) r14) (k0_pay25 (F := Ideal) r16) (k0_pay27 (F := Ideal) (k0_pay23 (F := Ideal) r32) (k0_pay26 (F := Ideal) a6' a5)) (k0_pay28 (BitVec.ofNat 32 (i 1).val)) X12 X13 f10 f11 f14 n).1) (ix3 0 j d)
      = arg10.view.read (Elt Ideal) f10 (ix3 0 j d) + dcB (arg12.view.read (Elt Ideal) X12) x0 x1 x5 x6 (i 1).val j d := by
  obtain rfl := h1.symm
  obtain rfl := h6.symm
  obtain rfl := h6'.symm
  obtain rfl := h5.symm
  subst h8 h14 h16 h12 h32 hn
  have ht : (i 1).val < 28 := (i 1).isLt
  refine (loop10 Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ _ X12 X13 f10 f11 f14 _ le_rfl j d).trans (congrArg (_ + ·) ?_)
  rw [trips1]
  by_cases hj : j.val < 128 * ((i 1).val / 4 + 1)
  · rw [if_pos hj]; rfl
  · rw [if_neg hj]; exact (dcB_masked _ x0 x1 x5 x6 _ ht j d (by omega)).symm

/-- A point adds its tile's part to the positional keys' gradient. -/
theorem point11 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (x0 : Vec Ideal S1x1x3x768 .f32) (x1 : Vec Ideal S1x768x576 .fp8e4m3) (x5 : Vec Ideal S1x768x512 .bf16) (x6 : Vec Ideal S1x768x512 .fp8e5m2)
    (a1 : Vec Ideal S1x768x576 .fp8e4m3) (a6 a6' : Vec Ideal S1x768x512 .fp8e5m2) (a5 : Vec Ideal S1x768x512 .bf16) (r8 r14 r16 r12 r32 : Vec Ideal S1x1x1x768 .f32)
    (h1 : a1 = x1) (h6 : a6 = x6) (h6' : a6' = x6) (h5 : a5 = x5) (h8 : r8 = rowB x0 0) (h14 : r14 = rowB x0 0) (h16 : r16 = rowB x0 1) (h12 : r12 = rowB x0 2) (h32 : r32 = rowB x0 2)
    (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty)
    (n : ℕ) (hn : n = (k0_t1_loop i).trips) (j : Fin 896) (d : Fin 64) :
    arg11.view.read (Elt Ideal) (arg11.view.writes (Elt Ideal) f11 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (k0_pay20 (F := Ideal) a1) (k0_pay21 (F := Ideal) a6) (k0_pay22 (F := Ideal) r8) (k0_pay23 (F := Ideal) r12) (k0_pay24 (F := Ideal) r14) (k0_pay25 (F := Ideal) r16) (k0_pay27 (F := Ideal) (k0_pay23 (F := Ideal) r32) (k0_pay26 (F := Ideal) a6' a5)) (k0_pay28 (BitVec.ofNat 32 (i 1).val)) X12 X13 f10 f11 f14 n).2.1) (ix3 0 j d)
      = arg11.view.read (Elt Ideal) f11 (ix3 0 j d) + drB (arg12.view.read (Elt Ideal) X12) x0 x1 x5 x6 (i 1).val j d := by
  obtain rfl := h1.symm
  obtain rfl := h6.symm
  obtain rfl := h6'.symm
  obtain rfl := h5.symm
  subst h8 h14 h16 h12 h32 hn
  have ht : (i 1).val < 28 := (i 1).isLt
  refine (loop11 Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ _ X12 X13 f10 f11 f14 _ le_rfl j d).trans (congrArg (_ + ·) ?_)
  rw [trips1]
  by_cases hj : j.val < 128 * ((i 1).val / 4 + 1)
  · rw [if_pos hj]; rfl
  · rw [if_neg hj]; exact (drB_masked _ x0 x1 x5 x6 _ ht j d (by omega)).symm

/-- A point's gradient of the queries, transposed. -/
theorem point14 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (x0 : Vec Ideal S1x1x3x768 .f32) (x1 : Vec Ideal S1x768x576 .fp8e4m3) (x5 : Vec Ideal S1x768x512 .bf16) (x6 : Vec Ideal S1x768x512 .fp8e5m2)
    (a1 : Vec Ideal S1x768x576 .fp8e4m3) (a6 a6' : Vec Ideal S1x768x512 .fp8e5m2) (a5 : Vec Ideal S1x768x512 .bf16) (r8 r14 r16 r12 r32 : Vec Ideal S1x1x1x768 .f32)
    (h1 : a1 = x1) (h6 : a6 = x6) (h6' : a6' = x6) (h5 : a5 = x5) (h8 : r8 = rowB x0 0) (h14 : r14 = rowB x0 0) (h16 : r16 = rowB x0 1) (h12 : r12 = rowB x0 2) (h32 : r32 = rowB x0 2)
    (X12 : BufTy.Contents (Elt Ideal) arg12.view.ty) (X13 : BufTy.Contents (Elt Ideal) arg13.view.ty) (f10 : BufTy.Contents (Elt Ideal) arg10.view.ty) (f11 : BufTy.Contents (Elt Ideal) arg11.view.ty) (f14 : BufTy.Contents (Elt Ideal) arg14.view.ty)
    (n : ℕ) (hn : n = (k0_t1_loop i).trips) (d : Fin 576) (y : Fin 768) :
    arg14.view.read (Elt Ideal) (arg14.view.writes (Elt Ideal) f14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (k0_pay20 (F := Ideal) a1) (k0_pay21 (F := Ideal) a6) (k0_pay22 (F := Ideal) r8) (k0_pay23 (F := Ideal) r12) (k0_pay24 (F := Ideal) r14) (k0_pay25 (F := Ideal) r16) (k0_pay27 (F := Ideal) (k0_pay23 (F := Ideal) r32) (k0_pay26 (F := Ideal) a6' a5)) (k0_pay28 (BitVec.ofNat 32 (i 1).val)) X12 X13 f10 f11 f14 n).2.2) (ix2 d y)
      = arg14.view.read (Elt Ideal) f14 (ix2 d y)
        + ∑ j : Fin 896, arg13.view.read (Elt Ideal) X13 (ix2 d j) * dsB (arg12.view.read (Elt Ideal) X12) x0 x1 x5 x6 (i 1).val j y := by
  obtain rfl := h1.symm
  obtain rfl := h6.symm
  obtain rfl := h6'.symm
  obtain rfl := h5.symm
  subst h8 h14 h16 h12 h32 hn
  have ht : (i 1).val < 28 := (i 1).isLt
  refine (loop14 Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ _ X12 X13 f10 f11 f14 _ le_rfl d y).trans (congrArg (_ + ·) ?_)
  rw [trips1]
  refine Finset.sum_congr rfl fun j _ => ?_
  by_cases hj : j.val < 128 * ((i 1).val / 4 + 1)
  · rw [if_pos hj]; rfl
  · rw [if_neg hj, dsB_masked _ x0 x1 x5 x6 _ ht j y (by omega), mul_zero]

end Cert.KernelIdeal.Value

end
-- ==== Proof.PointA.lean ====
/-
  The first grid point of a batch, read element by element: it puts the keys into scratch and starts the sums from zero.
-/
module

public import proofs.«01_k».proof.Proof.Point
public import proofs.«01_k».proof.Proof.Gen.KernelIdeal.Frame.RunA
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen
set_option maxRecDepth 16384

/-- The keys of a batch, as the array held in scratch. -/
def keyV (x2 : Vec Ideal S1x896x512 .fp8e4m3) (x3 : Vec Ideal S1x896x8 .f32) (x4 : Vec Ideal S1x896x64 .bf16) : Vec Ideal S896x576 .bf16 :=
  fun y => keyE x2 x3 x4 (y 0) (y 1)

/-- The keys of a batch, transposed. -/
def keyT (x2 : Vec Ideal S1x896x512 .fp8e4m3) (x3 : Vec Ideal S1x896x8 .f32) (x4 : Vec Ideal S1x896x64 .bf16) : Vec Ideal S576x896 .bf16 :=
  fun y => keyE x2 x3 x4 (y 1) (y 0)

/-- The two stores that put the keys into scratch. -/
theorem keys_read {v : View sig .tc .vmem S896x576 .bf16} (f : v.ty.Contents (Elt Ideal)) (c4 : Vec Ideal S1x896x64 .bf16) (w : FVec Ideal S896x512 .bf16)
    (x2 : Vec Ideal S1x896x512 .fp8e4m3) (x3 : Vec Ideal S1x896x8 .f32) (x4 : Vec Ideal S1x896x64 .bf16) (h4 : c4 = x4) (hw : w = k0_pay6 (F := Ideal) x3 x2)
    (inb : ∀ a, (![0, 512] : Fin 2 → ℕ) a + S896x64.size a ≤ S896x576.size a) (inb' : ∀ a, (![0, 0] : Fin 2 → ℕ) a + S896x512.size a ≤ S896x576.size a) :
    v.read (Elt Ideal) (v.writes (Elt Ideal) f [⟨Rect.unit (s := S896x576) ![0, 512] S896x64.size inb, k0_pay16 (F := Ideal) c4⟩,
      ⟨Rect.unit (s := S896x576) ![0, 0] S896x512.size inb', k0_pay15 (F := Ideal) w⟩]) = keyV x2 x3 x4 := by
  subst h4 hw
  funext y
  obtain ⟨j, d, rfl⟩ : ∃ (j : Fin 896) (d : Fin 576), y = ix2 j d := ⟨y 0, y 1, eq_ix2 y⟩
  show _ = keyE x2 x3 c4 j d
  unfold keyE
  by_cases h : d.val < 512
  · rw [dif_pos h]
    refine (View.read_writes_cons_unit_of_not_mem v f inb _ _ _ rfl (1 : Fin 2) (Or.inl h)).trans ?_
    refine (View.read_writes_cons_unit_of_mem v f inb' _ _ _ (ix2 j ⟨d.val, h⟩) rfl ?_).trans ?_
    · intro a
      fin_cases a
      · exact (Nat.zero_add _).symm
      · exact (Nat.zero_add _).symm
    · exact (pay15_apply _ j ⟨d.val, h⟩).trans (pay6_apply x3 x2 j ⟨d.val, h⟩)
  · rw [dif_neg h]
    refine (View.read_writes_cons_unit_of_mem v f inb _ _ _ (ix2 j ⟨d.val - 512, by omega⟩) rfl ?_).trans ?_
    · intro a
      fin_cases a
      · exact (Nat.zero_add _).symm
      · show d.val = 512 + (d.val - 512)
        omega
    · exact pay16_apply c4 j _

/-- The keys the point leaves in scratch. -/
theorem caseA12 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (w : View sig .tc .vmem S896x576 .bf16) :
    w.read (Elt Ideal) (w.writes (Elt Ideal) w.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1) = keyV x2 x3 x4 := by
  unfold kernelRun0_A
  dsimp only
  sl_unfold_words
  exact keys_read _ _ _ x2 x3 x4 (readAt_unread harg6 x4 _) (congrArg₂ (k0_pay6 (F := Ideal)) (readAt_unread harg5 x3 _) (readAt_unread harg4 x2 _)) _ _

/-- The transposed keys the point stores. -/
theorem keysT_read {v : View sig .tc .vmem S576x896 .bf16} (f : v.ty.Contents (Elt Ideal)) (K : Vec Ideal S896x576 .bf16)
    (x2 : Vec Ideal S1x896x512 .fp8e4m3) (x3 : Vec Ideal S1x896x8 .f32) (x4 : Vec Ideal S1x896x64 .bf16) (hK : K = keyV x2 x3 x4)
    (inb : ∀ a, (![0, 0] : Fin 2 → ℕ) a + S576x896.size a ≤ S576x896.size a) :
    v.read (Elt Ideal) (v.writes (Elt Ideal) f [⟨Rect.unit (s := S576x896) ![0, 0] S576x896.size inb, k0_pay17 (F := Ideal) K⟩]) = keyT x2 x3 x4 := by
  subst hK
  rw [View.read_writes_full]
  funext y
  obtain ⟨d, j, rfl⟩ : ∃ (d : Fin 576) (j : Fin 896), y = ix2 d j := ⟨y 0, y 1, eq_ix2 y⟩
  exact pay17_apply _ _ _

/-- The first point of a batch leaves the transposed keys in scratch. -/
theorem caseA13 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (w : View sig .tc .vmem S576x896 .bf16) :
    w.read (Elt Ideal) (w.writes (Elt Ideal) w.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1) = keyT x2 x3 x4 := by
  unfold kernelRun0_A
  dsimp only
  sl_unfold_words
  exact keysT_read _ _ x2 x3 x4 ((View.readAt_full arg12.view _ _).trans (keys_read _ _ _ x2 x3 x4 (readAt_unread harg6 x4 _) (congrArg₂ (k0_pay6 (F := Ideal)) (readAt_unread harg5 x3 _) (readAt_unread harg4 x2 _)) _ _)) _

/-- The latents' gradient starts with the first tile. -/
theorem caseA8 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (w : View sig .tc .vmem S1x896x512 .f32) (j : Fin 896) (d : Fin 512) :
    w.read (Elt Ideal) (w.writes (Elt Ideal) w.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1) (ix3 0 j d)
      = dcB (keyV x2 x3 x4) x0 x1 x5 x6 (i 1).val j d := by
  rw [View.read_writes_junk_eq_canon, ← View.read_writes_junk_eq_canon arg10.view]
  unfold kernelRun0_A
  dsimp only
  sl_unfold_words
  rw [no_rest, List.nil_append, View.writes_append]
  refine (point10 c i arg2 harg2 arg3 harg3 arg4 harg4 arg5 harg5 arg6 harg6 arg7 harg7 arg8 harg8 arg9 harg9 arg10 harg10 arg11 harg11 arg12 harg12 arg13 harg13 arg14 harg14 x0 x1 x5 x6 _ _ _ _ _ _ _ _ _ (readAt_unread harg3 x1 _) (readAt_unread harg8 x6 _) (readAt_unread harg8 x6 _) (readAt_unread harg7 x5 _) (readAt_row harg2 x0 0 _) (readAt_row harg2 x0 0 _) (readAt_row harg2 x0 1 _) (readAt_row harg2 x0 2 _) (readAt_row harg2 x0 2 _) _ _ _ _ _ _ rfl j d).trans ?_
  refine (congrArg₂ (· + ·) ((congrFun (View.read_writes_full arg10.view _ _ _ []) (ix3 0 j d)).trans (pay18_apply j d))
    (congrArg (fun K => dcB K x0 x1 x5 x6 (i 1).val j d) (keys_read _ _ _ x2 x3 x4 (readAt_unread harg6 x4 _) (congrArg₂ (k0_pay6 (F := Ideal)) (readAt_unread harg5 x3 _) (readAt_unread harg4 x2 _)) _ _))).trans (zero_add _)

/-- The positional keys' gradient starts with the first tile. -/
theorem caseA9 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (w : View sig .tc .vmem S1x896x64 .f32) (j : Fin 896) (d : Fin 64) :
    w.read (Elt Ideal) (w.writes (Elt Ideal) w.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1) (ix3 0 j d)
      = drB (keyV x2 x3 x4) x0 x1 x5 x6 (i 1).val j d := by
  rw [View.read_writes_junk_eq_canon, ← View.read_writes_junk_eq_canon arg11.view]
  unfold kernelRun0_A
  dsimp only
  sl_unfold_words
  rw [no_rest, List.nil_append, View.writes_append]
  refine (point11 c i arg2 harg2 arg3 harg3 arg4 harg4 arg5 harg5 arg6 harg6 arg7 harg7 arg8 harg8 arg9 harg9 arg10 harg10 arg11 harg11 arg12 harg12 arg13 harg13 arg14 harg14 x0 x1 x5 x6 _ _ _ _ _ _ _ _ _ (readAt_unread harg3 x1 _) (readAt_unread harg8 x6 _) (readAt_unread harg8 x6 _) (readAt_unread harg7 x5 _) (readAt_row harg2 x0 0 _) (readAt_row harg2 x0 0 _) (readAt_row harg2 x0 1 _) (readAt_row harg2 x0 2 _) (readAt_row harg2 x0 2 _) _ _ _ _ _ _ rfl j d).trans ?_
  refine (congrArg₂ (· + ·) ((congrFun (View.read_writes_full arg11.view _ _ _ []) (ix3 0 j d)).trans (pay19_apply j d))
    (congrArg (fun K => drB K x0 x1 x5 x6 (i 1).val j d) (keys_read _ _ _ x2 x3 x4 (readAt_unread harg6 x4 _) (congrArg₂ (k0_pay6 (F := Ideal)) (readAt_unread harg5 x3 _) (readAt_unread harg4 x2 _)) _ _))).trans (zero_add _)

/-- The point's gradient of the queries. -/
theorem caseA7 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (w : View sig .tc .vmem S1x768x576 .bf16) (y : Fin 768) (d : Fin 576) :
    w.read (Elt Ideal) (w.writes (Elt Ideal) w.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1) (ix3 0 y d)
      = ∑ j : Fin 896, keyT x2 x3 x4 (ix2 d j) * dsB (keyV x2 x3 x4) x0 x1 x5 x6 (i 1).val j y := by
  unfold kernelRun0_A
  dsimp only
  sl_unfold_words
  rw [no_rest]
  refine (congrFun (View.read_writes_full w w.junk _ _ []) (ix3 0 y d)).trans ?_
  refine (pay5_apply _ y d).trans ?_
  refine (congrFun (View.readAt_full arg14.view _ _) (ix2 d y)).trans ?_
  rw [List.nil_append, View.writes_append]
  refine (point14 c i arg2 harg2 arg3 harg3 arg4 harg4 arg5 harg5 arg6 harg6 arg7 harg7 arg8 harg8 arg9 harg9 arg10 harg10 arg11 harg11 arg12 harg12 arg13 harg13 arg14 harg14 x0 x1 x5 x6 _ _ _ _ _ _ _ _ _ (readAt_unread harg3 x1 _) (readAt_unread harg8 x6 _) (readAt_unread harg8 x6 _) (readAt_unread harg7 x5 _) (readAt_row harg2 x0 0 _) (readAt_row harg2 x0 0 _) (readAt_row harg2 x0 1 _) (readAt_row harg2 x0 2 _) (readAt_row harg2 x0 2 _) _ _ _ _ _ _ rfl d y).trans ?_
  refine (congrArg₂ (· + ·) ((congrFun (View.read_writes_full arg14.view _ _ _ []) (ix2 d y)).trans (pay29_apply d y))
    (congrArg₂ (fun (T : Vec Ideal S576x896 .bf16) (K : Vec Ideal S896x576 .bf16) => ∑ j : Fin 896, T (ix2 d j) * dsB K x0 x1 x5 x6 (i 1).val j y) ?_ ?_)).trans (zero_add _)
  · exact keysT_read _ _ x2 x3 x4 ((View.readAt_full arg12.view _ _).trans (keys_read _ _ _ x2 x3 x4 (readAt_unread harg6 x4 _) (congrArg₂ (k0_pay6 (F := Ideal)) (readAt_unread harg5 x3 _) (readAt_unread harg4 x2 _)) _ _)) _
  · exact keys_read _ _ _ x2 x3 x4 (readAt_unread harg6 x4 _) (congrArg₂ (k0_pay6 (F := Ideal)) (readAt_unread harg5 x3 _) (readAt_unread harg4 x2 _)) _ _

end Cert.KernelIdeal.Value

end
-- ==== Proof.PointB.lean ====
/-
  A grid point that isn't the first of its batch, read element by element.
-/
module

public import proofs.«01_k».proof.Proof.Point
public import proofs.«01_k».proof.Proof.Gen.KernelIdeal.Frame.RunB
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen
set_option maxRecDepth 16384
/-- The point adds to the latents' gradient the point before left. -/
theorem caseB8 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : ¬cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (xo8 : Vec Ideal S1x896x512 .f32) (xo9 : Vec Ideal S1x896x64 .f32) (xs0 : Vec Ideal S896x576 .bf16) (xs1 : Vec Ideal S576x896 .bf16) (j : Fin 896) (d : Fin 512) :
    arg10.view.read (Elt Ideal) (arg10.view.writes (Elt Ideal) (harg10.unread xo8) (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0 xs1).2.1) (ix3 0 j d)
      = xo8 (ix3 0 j d) + dcB xs0 x0 x1 x5 x6 (i 1).val j d := by
  unfold kernelRun0_B
  dsimp only
  sl_unfold_words
  rw [no_rest, List.nil_append]
  refine (point10 c i arg2 harg2 arg3 harg3 arg4 harg4 arg5 harg5 arg6 harg6 arg7 harg7 arg8 harg8 arg9 harg9 arg10 harg10 arg11 harg11 arg12 harg12 arg13 harg13 arg14 harg14 x0 x1 x5 x6 _ _ _ _ _ _ _ _ _ (readAt_unread harg3 x1 _) (readAt_unread harg8 x6 _) (readAt_unread harg8 x6 _) (readAt_unread harg7 x5 _) (readAt_row harg2 x0 0 _) (readAt_row harg2 x0 0 _) (readAt_row harg2 x0 1 _) (readAt_row harg2 x0 2 _) (readAt_row harg2 x0 2 _) _ _ _ _ _ _ rfl j d).trans ?_
  rw [harg10.read_unread, harg12.read_unread]

/-- The point adds to the positional keys' gradient the point before left. -/
theorem caseB9 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : ¬cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (xo8 : Vec Ideal S1x896x512 .f32) (xo9 : Vec Ideal S1x896x64 .f32) (xs0 : Vec Ideal S896x576 .bf16) (xs1 : Vec Ideal S576x896 .bf16) (j : Fin 896) (d : Fin 64) :
    arg11.view.read (Elt Ideal) (arg11.view.writes (Elt Ideal) (harg11.unread xo9) (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0 xs1).2.2.1) (ix3 0 j d)
      = xo9 (ix3 0 j d) + drB xs0 x0 x1 x5 x6 (i 1).val j d := by
  unfold kernelRun0_B
  dsimp only
  sl_unfold_words
  rw [no_rest, List.nil_append]
  refine (point11 c i arg2 harg2 arg3 harg3 arg4 harg4 arg5 harg5 arg6 harg6 arg7 harg7 arg8 harg8 arg9 harg9 arg10 harg10 arg11 harg11 arg12 harg12 arg13 harg13 arg14 harg14 x0 x1 x5 x6 _ _ _ _ _ _ _ _ _ (readAt_unread harg3 x1 _) (readAt_unread harg8 x6 _) (readAt_unread harg8 x6 _) (readAt_unread harg7 x5 _) (readAt_row harg2 x0 0 _) (readAt_row harg2 x0 0 _) (readAt_row harg2 x0 1 _) (readAt_row harg2 x0 2 _) (readAt_row harg2 x0 2 _) _ _ _ _ _ _ rfl j d).trans ?_
  rw [harg11.read_unread, harg12.read_unread]

/-- The point's gradient of the queries. -/
theorem caseB7 (c : Dev nD) (i : grid0.Coords) (arg2 : Memref sig .tc .vmem S1x1x3x768 .f32) (harg2 : arg2.IsWhole) (arg3 : Memref sig .tc .vmem S1x768x576 .fp8e4m3) (harg3 : arg3.IsWhole) (arg4 : Memref sig .tc .vmem S1x896x512 .fp8e4m3) (harg4 : arg4.IsWhole) (arg5 : Memref sig .tc .vmem S1x896x8 .f32) (harg5 : arg5.IsWhole) (arg6 : Memref sig .tc .vmem S1x896x64 .bf16) (harg6 : arg6.IsWhole) (arg7 : Memref sig .tc .vmem S1x768x512 .bf16) (harg7 : arg7.IsWhole) (arg8 : Memref sig .tc .vmem S1x768x512 .fp8e5m2) (harg8 : arg8.IsWhole) (arg9 : Memref sig .tc .vmem S1x768x576 .bf16) (harg9 : arg9.IsWhole) (arg10 : Memref sig .tc .vmem S1x896x512 .f32) (harg10 : arg10.IsWhole) (arg11 : Memref sig .tc .vmem S1x896x64 .f32) (harg11 : arg11.IsWhole) (arg12 : Memref sig .tc .vmem S896x576 .bf16) (harg12 : arg12.IsWhole) (arg13 : Memref sig .tc .vmem S576x896 .bf16) (harg13 : arg13.IsWhole) (arg14 : Memref sig .tc .vmem S576x768 .f32) (harg14 : arg14.IsWhole)  (hc0 : ¬cond0_0 i) (x0 : Vec Ideal S1x1x3x768 .f32) (x1 : Vec Ideal S1x768x576 .fp8e4m3) (x2 : Vec Ideal S1x896x512 .fp8e4m3) (x3 : Vec Ideal S1x896x8 .f32) (x4 : Vec Ideal S1x896x64 .bf16) (x5 : Vec Ideal S1x768x512 .bf16) (x6 : Vec Ideal S1x768x512 .fp8e5m2) (xo8 : Vec Ideal S1x896x512 .f32) (xo9 : Vec Ideal S1x896x64 .f32) (xs0 : Vec Ideal S896x576 .bf16) (xs1 : Vec Ideal S576x896 .bf16) (w : View sig .tc .vmem S1x768x576 .bf16) (y : Fin 768) (d : Fin 576) :
    w.read (Elt Ideal) (w.writes (Elt Ideal) w.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0 xs1).1) (ix3 0 y d)
      = ∑ j : Fin 896, xs1 (ix2 d j) * dsB xs0 x0 x1 x5 x6 (i 1).val j y := by
  unfold kernelRun0_B
  dsimp only
  sl_unfold_words
  rw [no_rest]
  refine (congrFun (View.read_writes_full w w.junk _ _ []) (ix3 0 y d)).trans ?_
  refine (pay5_apply _ y d).trans ?_
  refine (congrFun (View.readAt_full arg14.view _ _) (ix2 d y)).trans ?_
  rw [List.nil_append, View.writes_append]
  refine (point14 c i arg2 harg2 arg3 harg3 arg4 harg4 arg5 harg5 arg6 harg6 arg7 harg7 arg8 harg8 arg9 harg9 arg10 harg10 arg11 harg11 arg12 harg12 arg13 harg13 arg14 harg14 x0 x1 x5 x6 _ _ _ _ _ _ _ _ _ (readAt_unread harg3 x1 _) (readAt_unread harg8 x6 _) (readAt_unread harg8 x6 _) (readAt_unread harg7 x5 _) (readAt_row harg2 x0 0 _) (readAt_row harg2 x0 0 _) (readAt_row harg2 x0 1 _) (readAt_row harg2 x0 2 _) (readAt_row harg2 x0 2 _) _ _ _ _ _ _ rfl d y).trans ?_
  rw [harg12.read_unread, harg13.read_unread]
  refine (congrArg (· + _) ((congrFun (View.read_writes_full arg14.view _ _ _ []) (ix2 d y)).trans (pay29_apply d y))).trans (zero_add _)

end Cert.KernelIdeal.Value

end
-- ==== Proof.Host.lean ====
/-
  What the kernel's windows hold at each grid point, in terms of the launch's arguments: the reshapes and the stacking the
  host does before the kernel, read at one element.
-/
module

public import proofs.«01_k».proof.Proof.Maths
public import proofs.«01_k».proof.Proof.Gen.KernelIdeal.Frame.Runs
public import Idealize.ShloMosaic.Lib.Pipeline.ValueKit.Point

@[expose] public section

set_option maxRecDepth 16384

noncomputable section

open scoped BigOperators

namespace Cert.KernelIdeal.Value

open Idealize.ShloMosaic Idealize.ShloMosaic.TcCoe Idealize.ShloMosaic.Tactic
open Idealize.SL.Sem Cert.Maths Cert.KernelIdeal.Gen

variable (m : (ℓ : Loc nD τ sig) → Buf (Elt Ideal) ℓ) (c : Dev nD)

/-- The grid point of a batch and a tile. -/
abbrev point (b : Fin 2) (r : Fin 28) : Fin cfg0.N := ⟨28 * b.val + r.val, by have := b.isLt; have := r.isLt; show _ < grid0.N; rw [N_0]; omega⟩

/-- A batch is the first axis of every window, and a tile the second of those that move with it. -/
theorem index_eq : ∀ (b : Fin 2) (r : Fin 28), win0_0.index (point b r) = ![b.val, r.val, 0, 0] ∧ win0_1.index (point b r) = ![b.val, r.val, 0]
    ∧ win0_2.index (point b r) = ![b.val, 0, 0] ∧ win0_3.index (point b r) = ![b.val, 0, 0] ∧ win0_4.index (point b r) = ![b.val, 0, 0]
    ∧ win0_5.index (point b r) = ![b.val, r.val, 0] ∧ win0_6.index (point b r) = ![b.val, r.val, 0] := by
  decide +kernel

/-- The second grid coordinate is the tile. -/
theorem coord_eq : ∀ (b : Fin 2) (r : Fin 28), (grid0.coords (point b r) 1).val = r.val := by
  decide +kernel

/-- The queries of a tile. -/
theorem blk1 (b : Fin 2) (r : Fin 28) (y : Fin 768) (d : Fin 576) :
    iblk m c 1 (point b r) (ix3 0 y d) = m ((c : Thread nD τ).loc main_arg0) (ix4 b (tokOf (rowOf r y)) (headOf (rowOf r y)) d) := by
  obtain ⟨h0, h1, h2, h3, h4, h5, h6⟩ := index_eq b r
  blk_simp [iblk, V, h1]
  entry_read
  pointwise
  blk_ext [h1, tokOf, headOf, rowOf]

/-- The latents of a batch. -/
theorem blk2 (b : Fin 2) (r : Fin 28) (j : Fin 896) (d : Fin 512) :
    iblk m c 2 (point b r) (ix3 0 j d) = m ((c : Thread nD τ).loc main_arg2) (ix3 b j d) := by
  obtain ⟨h0, h1, h2, h3, h4, h5, h6⟩ := index_eq b r
  blk_ext! [iblk, V, h2]

/-- The scales of a batch. -/
theorem blk3 (b : Fin 2) (r : Fin 28) (j : Fin 896) (d : Fin 8) :
    iblk m c 3 (point b r) (ix3 0 j d) = m ((c : Thread nD τ).loc main_arg3) (ix3 b j d) := by
  obtain ⟨h0, h1, h2, h3, h4, h5, h6⟩ := index_eq b r
  blk_ext! [iblk, V, h3]

/-- The positional keys of a batch. -/
theorem blk4 (b : Fin 2) (r : Fin 28) (j : Fin 896) (d : Fin 64) :
    iblk m c 4 (point b r) (ix3 0 j d) = m ((c : Thread nD τ).loc main_arg4) (ix3 b j d) := by
  obtain ⟨h0, h1, h2, h3, h4, h5, h6⟩ := index_eq b r
  blk_ext! [iblk, V, h4]

/-- The outputs of a tile. -/
theorem blk5 (b : Fin 2) (r : Fin 28) (y : Fin 768) (d : Fin 512) :
    iblk m c 5 (point b r) (ix3 0 y d) = m ((c : Thread nD τ).loc main_arg5) (ix4 b (tokOf (rowOf r y)) (headOf (rowOf r y)) d) := by
  obtain ⟨h0, h1, h2, h3, h4, h5, h6⟩ := index_eq b r
  blk_simp [iblk, V, h5]
  entry_read
  pointwise
  blk_ext [h5, tokOf, headOf, rowOf]

/-- The gradients of the outputs of a tile. -/
theorem blk6 (b : Fin 2) (r : Fin 28) (y : Fin 768) (d : Fin 512) :
    iblk m c 6 (point b r) (ix3 0 y d) = m ((c : Thread nD τ).loc main_arg7) (ix4 b (tokOf (rowOf r y)) (headOf (rowOf r y)) d) := by
  obtain ⟨h0, h1, h2, h3, h4, h5, h6⟩ := index_eq b r
  blk_simp [iblk, V, h6]
  entry_read
  pointwise
  blk_ext [h6, tokOf, headOf, rowOf]

end Cert.KernelIdeal.Value

end
-- ==== Proof.Fold.lean ====
/-
  The sweep over the grid: after each tile of a batch, scratch holds the batch's keys and the two accumulated gradients hold
  the sums over the tiles so far.
-/
module

public import proofs.«01_k».proof.Proof.PointA
public import proofs.«01_k».proof.Proof.PointB
public import proofs.«01_k».proof.Proof.Host
public import proofs.«01_k».proof.Proof.Gen.KernelIdeal.Frame

@[expose] public section

set_option maxRecDepth 16384

noncomputable section

open scoped BigOperators

namespace Cert.KernelIdeal.Value

open Idealize.ShloMosaic Idealize.ShloMosaic.TcCoe
open Idealize.SL.Sem Cert.KernelIdeal Cert.KernelIdeal.Gen

variable (m : (ℓ : Loc nD τ sig) → Buf (Elt Ideal) ℓ) (c : Dev nD)

/-- The first tile puts the keys into scratch. -/
theorem firstK (t : Fin cfg0.N) (h0 : t.val % 28 = 0)  :
    (outsAt0 m c t.val t.isLt).2.2.2.1  = keyV (iblk m c 2 t) (iblk m c 3 t) (iblk m c 4 t) := by
  refine (congrArg (fun o => o.2.2.2.1 ) (outsAt0_A m c t h0)).trans ?_
  dsimp only
  unfold sout0_A_0
  exact caseA12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) VS0_0

/-- The first tile puts the transposed keys into scratch. -/
theorem firstT (t : Fin cfg0.N) (h0 : t.val % 28 = 0)  :
    (outsAt0 m c t.val t.isLt).2.2.2.2  = keyT (iblk m c 2 t) (iblk m c 3 t) (iblk m c 4 t) := by
  refine (congrArg (fun o => o.2.2.2.2 ) (outsAt0_A m c t h0)).trans ?_
  dsimp only
  unfold sout0_A_1
  exact caseA13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) VS0_1

/-- The latents' gradient after the first tile. -/
theorem firstC (t : Fin cfg0.N) (h0 : t.val % 28 = 0) (j : Fin 896) (d : Fin 512) :
    (outsAt0 m c t.val t.isLt).2.1 (ix3 0 j d) = dcB (keyV (iblk m c 2 t) (iblk m c 3 t) (iblk m c 4 t)) (iblk m c 0 t) (iblk m c 1 t) (iblk m c 5 t) (iblk m c 6 t) (grid0.coords t 1).val j d := by
  refine (congrArg (fun o => o.2.1 (ix3 0 j d)) (outsAt0_A m c t h0)).trans ?_
  dsimp only
  unfold out0_A_8
  exact caseA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) VO0_8 j d

/-- The positional keys' gradient after the first tile. -/
theorem firstR (t : Fin cfg0.N) (h0 : t.val % 28 = 0) (j : Fin 896) (d : Fin 64) :
    (outsAt0 m c t.val t.isLt).2.2.1 (ix3 0 j d) = drB (keyV (iblk m c 2 t) (iblk m c 3 t) (iblk m c 4 t)) (iblk m c 0 t) (iblk m c 1 t) (iblk m c 5 t) (iblk m c 6 t) (grid0.coords t 1).val j d := by
  refine (congrArg (fun o => o.2.2.1 (ix3 0 j d)) (outsAt0_A m c t h0)).trans ?_
  dsimp only
  unfold out0_A_9
  exact caseA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) VO0_9 j d

/-- The queries' gradient of the first tile. -/
theorem firstQ (t : Fin cfg0.N) (h0 : t.val % 28 = 0) (y : Fin 768) (d : Fin 576) :
    (outsAt0 m c t.val t.isLt).1 (ix3 0 y d) = ∑ j : Fin 896, keyT (iblk m c 2 t) (iblk m c 3 t) (iblk m c 4 t) (ix2 d j) * dsB (keyV (iblk m c 2 t) (iblk m c 3 t) (iblk m c 4 t)) (iblk m c 0 t) (iblk m c 1 t) (iblk m c 5 t) (iblk m c 6 t) (grid0.coords t 1).val j y := by
  refine (congrArg (fun o => o.1 (ix3 0 y d)) (outsAt0_A m c t h0)).trans ?_
  dsimp only
  unfold out0_A_7
  exact caseA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) VO0_7 y d

/-- A later tile keeps the keys. -/
theorem nextK (t : Fin cfg0.N) (h0 : ¬t.val % 28 = 0)  :
    (outsAt0 m c t.val t.isLt).2.2.2.1  = (outsAt0 m c (t.val - 1) (Nat.lt_of_le_of_lt (Nat.sub_le _ _) t.isLt)).2.2.2.1 := by
  refine (congrArg (fun o => o.2.2.2.1 ) (outsAt0_B m c t h0)).trans ?_
  rfl

/-- A later tile keeps the transposed keys. -/
theorem nextT (t : Fin cfg0.N) (h0 : ¬t.val % 28 = 0)  :
    (outsAt0 m c t.val t.isLt).2.2.2.2  = (outsAt0 m c (t.val - 1) (Nat.lt_of_le_of_lt (Nat.sub_le _ _) t.isLt)).2.2.2.2 := by
  refine (congrArg (fun o => o.2.2.2.2 ) (outsAt0_B m c t h0)).trans ?_
  rfl

/-- A later tile adds to the latents' gradient. -/
theorem nextC (t : Fin cfg0.N) (h0 : ¬t.val % 28 = 0) (j : Fin 896) (d : Fin 512) :
    (outsAt0 m c t.val t.isLt).2.1 (ix3 0 j d) = (outsAt0 m c (t.val - 1) (Nat.lt_of_le_of_lt (Nat.sub_le _ _) t.isLt)).2.1 (ix3 0 j d) + dcB (outsAt0 m c (t.val - 1) (Nat.lt_of_le_of_lt (Nat.sub_le _ _) t.isLt)).2.2.2.1 (iblk m c 0 t) (iblk m c 1 t) (iblk m c 5 t) (iblk m c 6 t) (grid0.coords t 1).val j d := by
  refine (congrArg (fun o => o.2.1 (ix3 0 j d)) (outsAt0_B m c t h0)).trans ?_
  dsimp only
  unfold out0_B_8
  exact caseB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j d

/-- A later tile adds to the positional keys' gradient. -/
theorem nextR (t : Fin cfg0.N) (h0 : ¬t.val % 28 = 0) (j : Fin 896) (d : Fin 64) :
    (outsAt0 m c t.val t.isLt).2.2.1 (ix3 0 j d) = (outsAt0 m c (t.val - 1) (Nat.lt_of_le_of_lt (Nat.sub_le _ _) t.isLt)).2.2.1 (ix3 0 j d) + drB (outsAt0 m c (t.val - 1) (Nat.lt_of_le_of_lt (Nat.sub_le _ _) t.isLt)).2.2.2.1 (iblk m c 0 t) (iblk m c 1 t) (iblk m c 5 t) (iblk m c 6 t) (grid0.coords t 1).val j d := by
  refine (congrArg (fun o => o.2.2.1 (ix3 0 j d)) (outsAt0_B m c t h0)).trans ?_
  dsimp only
  unfold out0_B_9
  exact caseB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 j d

/-- The queries' gradient of a later tile. -/
theorem nextQ (t : Fin cfg0.N) (h0 : ¬t.val % 28 = 0) (y : Fin 768) (d : Fin 576) :
    (outsAt0 m c t.val t.isLt).1 (ix3 0 y d) = ∑ j : Fin 896, (outsAt0 m c (t.val - 1) (Nat.lt_of_le_of_lt (Nat.sub_le _ _) t.isLt)).2.2.2.2 (ix2 d j) * dsB (outsAt0 m c (t.val - 1) (Nat.lt_of_le_of_lt (Nat.sub_le _ _) t.isLt)).2.2.2.1 (iblk m c 0 t) (iblk m c 1 t) (iblk m c 5 t) (iblk m c 6 t) (grid0.coords t 1).val j y := by
  refine (congrArg (fun o => o.1 (ix3 0 y d)) (outsAt0_B m c t h0)).trans ?_
  dsimp only
  unfold out0_B_7
  exact caseB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 VO0_7 y d

/-- The keys of a batch, as its first tile reads them. -/
abbrev bK (b : Fin 2) : Vec Ideal S896x576 .bf16 := keyV (iblk m c 2 (point b 0)) (iblk m c 3 (point b 0)) (iblk m c 4 (point b 0))

/-- The transposed keys of a batch. -/
abbrev bT (b : Fin 2) : Vec Ideal S576x896 .bf16 := keyT (iblk m c 2 (point b 0)) (iblk m c 3 (point b 0)) (iblk m c 4 (point b 0))

/-- What one tile adds to the latents' gradient. -/
abbrev tileC (b : Fin 2) (j : Fin 896) (d : Fin 512) (r : Fin 28) : EReal :=
  dcB (bK m c b) (iblk m c 0 (point b r)) (iblk m c 1 (point b r)) (iblk m c 5 (point b r)) (iblk m c 6 (point b r)) r.val j d

/-- What one tile adds to the positional keys' gradient. -/
abbrev tileR (b : Fin 2) (j : Fin 896) (d : Fin 64) (r : Fin 28) : EReal :=
  drB (bK m c b) (iblk m c 0 (point b r)) (iblk m c 1 (point b r)) (iblk m c 5 (point b r)) (iblk m c 6 (point b r)) r.val j d

/-- The queries' gradient of one tile. -/
abbrev tileQ (b : Fin 2) (y : Fin 768) (d : Fin 576) (r : Fin 28) : EReal :=
  ∑ j : Fin 896, bT m c b (ix2 d j) * dsB (bK m c b) (iblk m c 0 (point b r)) (iblk m c 1 (point b r)) (iblk m c 5 (point b r)) (iblk m c 6 (point b r)) r.val j y

/-- What the sweep holds after tile `r` of batch `b`. -/
def Held (b : Fin 2) (r : ℕ) (hr : r < 28) : Prop :=
  (outsAt0 m c (point b ⟨r, hr⟩).val (point b ⟨r, hr⟩).isLt).2.2.2.1 = bK m c b
  ∧ (outsAt0 m c (point b ⟨r, hr⟩).val (point b ⟨r, hr⟩).isLt).2.2.2.2 = bT m c b
  ∧ (∀ (j : Fin 896) (d : Fin 512), (outsAt0 m c (point b ⟨r, hr⟩).val (point b ⟨r, hr⟩).isLt).2.1 (ix3 0 j d)
      = ∑ s : Fin (r + 1), tileC m c b j d ⟨s.val, by have := s.isLt; omega⟩)
  ∧ (∀ (j : Fin 896) (d : Fin 64), (outsAt0 m c (point b ⟨r, hr⟩).val (point b ⟨r, hr⟩).isLt).2.2.1 (ix3 0 j d)
      = ∑ s : Fin (r + 1), tileR m c b j d ⟨s.val, by have := s.isLt; omega⟩)
  ∧ (∀ (y : Fin 768) (d : Fin 576), (outsAt0 m c (point b ⟨r, hr⟩).val (point b ⟨r, hr⟩).isLt).1 (ix3 0 y d) = tileQ m c b y d ⟨r, hr⟩)

/-- After the first tile. -/
theorem held_first (b : Fin 2) (hr : 0 < 28) : Held m c b 0 hr := by
  have h0 : (point b ⟨0, hr⟩).val % 28 = 0 := by show (28 * b.val + 0) % 28 = 0; omega
  refine ⟨firstK m c _ h0, firstT m c _ h0, fun j d => ?_, fun j d => ?_, fun y d => ?_⟩
  · refine (firstC m c _ h0 j d).trans ?_
    rw [coord_eq b ⟨0, hr⟩]
    exact (Fin.sum_univ_one (fun s : Fin (0 + 1) => tileC m c b j d ⟨s.val, by have := s.isLt; omega⟩)).symm
  · refine (firstR m c _ h0 j d).trans ?_
    rw [coord_eq b ⟨0, hr⟩]
    exact (Fin.sum_univ_one (fun s : Fin (0 + 1) => tileR m c b j d ⟨s.val, by have := s.isLt; omega⟩)).symm
  · refine (firstQ m c _ h0 y d).trans ?_
    rw [coord_eq b ⟨0, hr⟩]
    rfl

/-- From one tile to the next. -/
theorem held_next (b : Fin 2) (r : ℕ) (hr : r + 1 < 28) (ih : Held m c b r (by omega)) : Held m c b (r + 1) hr := by
  have h0 : ¬(point b ⟨r + 1, hr⟩).val % 28 = 0 := by show ¬(28 * b.val + (r + 1)) % 28 = 0; omega
  obtain ⟨hK, hT, hC, hR, -⟩ := ih
  refine ⟨(nextK m c _ h0).trans hK, (nextT m c _ h0).trans hT, fun j d => ?_, fun j d => ?_, fun y d => ?_⟩
  · refine (nextC m c _ h0 j d).trans ?_
    rw [coord_eq b ⟨r + 1, hr⟩, Fin.sum_univ_castSucc]
    exact congrArg₂ (· + ·) (hC j d) (congrArg (fun K => dcB K _ _ _ _ _ j d) hK)
  · refine (nextR m c _ h0 j d).trans ?_
    rw [coord_eq b ⟨r + 1, hr⟩, Fin.sum_univ_castSucc]
    exact congrArg₂ (· + ·) (hR j d) (congrArg (fun K => drB K _ _ _ _ _ j d) hK)
  · refine (nextQ m c _ h0 y d).trans ?_
    rw [coord_eq b ⟨r + 1, hr⟩]
    exact congrArg₂ (fun (T : Vec Ideal S576x896 .bf16) (K : Vec Ideal S896x576 .bf16) => ∑ j : Fin 896, T (ix2 d j) * dsB K _ _ _ _ _ j y) hT hK

/-- After any tile of a batch. -/
theorem held (b : Fin 2) : ∀ (r : ℕ) (hr : r < 28), Held m c b r hr
  | 0, hr => held_first m c b hr
  | r + 1, hr => held_next m c b r hr (held b r (by omega))

end Cert.KernelIdeal.Value

end
-- ==== Proof.Entry.lean ====
/-
  The rows of scalars that the host stacks before the kernel, read at one element of a tile.
-/
module

public import proofs.«01_k».proof.Proof.Host
public import proofs.«01_k».proof.Proof.Gen.KernelIdeal.Frame.Runs
public import Idealize.ShloMosaic.Lib.Pipeline.ValueKit.Point

@[expose] public section

set_option maxRecDepth 16384

noncomputable section

open scoped BigOperators

namespace Cert.KernelIdeal.Value

open Idealize.ShloMosaic Idealize.ShloMosaic.TcCoe Idealize.ShloMosaic.Tactic
open Idealize.SL.Sem Cert.Maths Cert.KernelIdeal.Gen

variable (m : (ℓ : Loc nD τ sig) → Buf (Elt Ideal) ℓ) (c : Dev nD)

set_option maxHeartbeats 2000000 in
/-- The rows of scalars that the host stacks: the scales of the queries, the normalizers, and the scales of the output's gradient. -/
theorem rows_entry : V m c main_v7 = transpose S2x28x3x768 [0, 2, 1, 3] (shapeCast S2x3x28x768
    (concatenate S2x3x896x24 1 [⟨S2x1x896x24, broadcastInDim S2x1x896x24 ![0, 2, 3] bcast_S2x896x24_S2x1x896x24_0_2_3 (m ((c : Thread nD τ).loc main_arg1) : (⟨S2x896x24, .f32⟩ : BufTy).Contents (Elt Ideal))⟩,
      ⟨S2x1x896x24, broadcastInDim S2x1x896x24 ![0, 2, 3] bcast_S2x896x24_S2x1x896x24_0_2_3 (m ((c : Thread nD τ).loc main_arg6) : (⟨S2x896x24, .f32⟩ : BufTy).Contents (Elt Ideal))⟩,
      ⟨S2x1x896x24, broadcastInDim S2x1x896x24 ![0, 2, 3] bcast_S2x896x24_S2x1x896x24_0_2_3 (broadcastInDim S2x896x24 ![0, 1, 2] bcast_S2x896x1_S2x896x24_0_1_2
        (broadcastInDim S2x896x1 ![0, 1] bcast_S2x896_S2x896x1_0_1 (m ((c : Thread nD τ).loc main_arg8) : (⟨S2x896, .f32⟩ : BufTy).Contents (Elt Ideal))))⟩]
      concatenates_S2x1x896x24_S2x1x896x24_S2x1x896x24_S2x3x896x24_d1) shapeCasts_S2x3x896x24_S2x3x28x768) transposes_S2x3x28x768_S2x28x3x768_0_2_1_3 := by
  rfl

/-- A tile's block of scalars, in the stacked array. -/
theorem blk0 (b : Fin 2) (r : Fin 28) (k : Fin 3) (y : Fin 768) :
    iblk m c 0 (point b r) (ix4 0 0 k y) = V m c main_v7 (ix4 b r k y) := by
  obtain ⟨h0, h1, h2, h3, h4, h5, h6⟩ := index_eq b r
  blk_ext [iblk, h0]

/-- The scales of the queries of a tile. -/
theorem blk0a (b : Fin 2) (r : Fin 28) (y : Fin 768) :
    iblk m c 0 (point b r) (ix4 0 0 0 y) = m ((c : Thread nD τ).loc main_arg1) (ix3 b (tokOf (rowOf r y)) (headOf (rowOf r y))) := by
  refine (blk0 m c b r 0 y).trans ((congrFun (rows_entry m c) _).trans ?_)
  pointwise
  blk_ext [tokOf, headOf, rowOf]

/-- The normalizers of a tile. -/
theorem blk0b (b : Fin 2) (r : Fin 28) (y : Fin 768) :
    iblk m c 0 (point b r) (ix4 0 0 1 y) = m ((c : Thread nD τ).loc main_arg6) (ix3 b (tokOf (rowOf r y)) (headOf (rowOf r y))) := by
  refine (blk0 m c b r 1 y).trans ((congrFun (rows_entry m c) _).trans ?_)
  pointwise
  blk_ext [tokOf, headOf, rowOf]

/-- The scales of the output's gradient of a tile. -/
theorem blk0c (b : Fin 2) (r : Fin 28) (y : Fin 768) :
    iblk m c 0 (point b r) (ix4 0 0 2 y) = m ((c : Thread nD τ).loc main_arg8) (ix2 b (tokOf (rowOf r y))) := by
  refine (blk0 m c b r 2 y).trans ((congrFun (rows_entry m c) _).trans ?_)
  pointwise
  blk_ext [tokOf, headOf, rowOf]

end Cert.KernelIdeal.Value

end
-- ==== Proof.Tile.lean ====
/-
  What each tile of a batch contributes, in terms of the launch's arguments: the problem's probabilities and gradients at the
  rows of the tile; summed over the tiles, the problem's three results.
-/
module

public import proofs.«01_k».proof.Proof.Fold
public import proofs.«01_k».proof.Proof.Entry

@[expose] public section

set_option maxRecDepth 16384

noncomputable section

open scoped BigOperators

namespace Cert.KernelIdeal.Value

open Idealize.ShloMosaic Idealize.ShloMosaic.TcCoe
open Idealize.SL.Sem Cert.Maths Cert.KernelIdeal Cert.KernelIdeal.Gen

variable (m : (ℓ : Loc nD τ sig) → Buf (Elt Ideal) ℓ) (c : Dev nD)

/-- The problem's arrays, as the kernel's launch holds them. -/
abbrev AK : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The keys in scratch are the problem's keys. -/
theorem key_eq (b : Fin 2) (j : Fin 896) (d : Fin 576) :
    keyE (iblk m c 2 (point b 0)) (iblk m c 3 (point b 0)) (iblk m c 4 (point b 0)) j d = (AK m c).k b j d := by
  show _ = if h : d.val < 512 then _ else _
  unfold keyE
  by_cases h : d.val < 512
  · rw [dif_pos h, dif_pos h]
    exact congrArg₂ (· * ·) (blk2 m c b 0 j ⟨d.val, h⟩) (blk3 m c b 0 j ⟨d.val / 64, by omega⟩)
  · rw [dif_neg h, dif_neg h]
    exact blk4 m c b 0 j ⟨d.val - 512, by omega⟩

/-- The keys that a batch holds are the problem's keys. -/
theorem bK_eq (b : Fin 2) (j : Fin 896) (d : Fin 576) : bK m c b (ix2 j d) = (AK m c).k b j d := key_eq m c b j d

/-- The transposed keys that a batch holds are the problem's keys. -/
theorem bT_eq (b : Fin 2) (j : Fin 896) (d : Fin 576) : bT m c b (ix2 d j) = (AK m c).k b j d := key_eq m c b j d

/-- A query's element in a tile. -/
theorem q_eq (b : Fin 2) (r : Fin 28) (y : Fin 768) (d : Fin 576) :
    iblk m c 1 (point b r) (ix3 0 y d) = (AK m c).q b (tokOf (rowOf r y)) (headOf (rowOf r y)) d := blk1 m c b r y d

/-- An element of the output in a tile. -/
theorem o_eq (b : Fin 2) (r : Fin 28) (y : Fin 768) (d : Fin 512) :
    iblk m c 5 (point b r) (ix3 0 y d) = (AK m c).o b (tokOf (rowOf r y)) (headOf (rowOf r y)) d := blk5 m c b r y d

/-- An element of the output's gradient in a tile. -/
theorem g_eq (b : Fin 2) (r : Fin 28) (y : Fin 768) (d : Fin 512) :
    iblk m c 6 (point b r) (ix3 0 y d) = (AK m c).g b (tokOf (rowOf r y)) (headOf (rowOf r y)) d := blk6 m c b r y d

/-- The scale of a query in a tile. -/
theorem qs_eq (b : Fin 2) (r : Fin 28) (y : Fin 768) :
    iblk m c 0 (point b r) (ix4 0 0 0 y) = (AK m c).qs b (tokOf (rowOf r y)) (headOf (rowOf r y)) := blk0a m c b r y

/-- The normaliser of a query in a tile. -/
theorem lse_eq (b : Fin 2) (r : Fin 28) (y : Fin 768) :
    iblk m c 0 (point b r) (ix4 0 0 1 y) = (AK m c).lse b (tokOf (rowOf r y)) (headOf (rowOf r y)) := blk0b m c b r y

/-- The scale of the output's gradient in a tile. -/
theorem gs_eq (b : Fin 2) (r : Fin 28) (y : Fin 768) :
    iblk m c 0 (point b r) (ix4 0 0 2 y) = (AK m c).gs b (tokOf (rowOf r y)) := blk0c m c b r y

/-- A tile's probabilities are the problem's. -/
theorem prob_eq (b : Fin 2) (r : Fin 28) (j : Fin 896) (y : Fin 768) :
    pB (bK m c b) (iblk m c 0 (point b r)) (iblk m c 1 (point b r)) r.val j y
      = prob (AK m c) b (tokOf (rowOf r y)) (headOf (rowOf r y)) j := by
  refine (pB_eq _ _ _ r.val r.isLt j y).trans ?_
  unfold prob
  refine if_congr ?_ ?_ rfl
  · show j.val ≤ 32 * r.val + y.val / 24 ↔ j.val ≤ (768 * r.val + y.val) / 24
    omega
  · exact congrArg₂ (fun s l => Ideal.exp (scale * s - l))
      (congrArg₂ (· * ·) (Finset.sum_congr rfl fun d _ => congrArg₂ (· * ·) (q_eq m c b r y d) (bK_eq m c b j d)) (qs_eq m c b r y))
      (lse_eq m c b r y)

variable (hg : ∀ b i, 0 ≤ (AK m c).gs b i) (hg' : ∀ b i, (AK m c).gs b i ≠ ⊤)
include hg hg'

/-- A tile's gradients of the scores are the problem's. -/
theorem grad_eq (b : Fin 2) (r : Fin 28) (j : Fin 896) (y : Fin 768) :
    dsB (bK m c b) (iblk m c 0 (point b r)) (iblk m c 1 (point b r)) (iblk m c 5 (point b r)) (iblk m c 6 (point b r)) r.val j y
      = grad (AK m c) b (tokOf (rowOf r y)) (headOf (rowOf r y)) j := by
  refine (dsB_eq _ _ _ _ _ r.val (fun y => (gs_eq m c b r y).symm ▸ hg b _) (fun y => (gs_eq m c b r y).symm ▸ hg' b _) j y).trans ?_
  unfold grad
  exact congrArg₂ (fun p z => scale * (p * z)) (prob_eq m c b r j y)
    (congrArg₂ (· - ·)
      (congrArg₂ (· * ·) (Finset.sum_congr rfl fun d _ => congrArg₂ (· * ·) (g_eq m c b r y d) (bK_eq m c b j _)) (gs_eq m c b r y))
      (Finset.sum_congr rfl fun d _ => congrArg₂ (· * ·) (congrArg₂ (· * ·) (g_eq m c b r y d) (gs_eq m c b r y)) (o_eq m c b r y d)))

/-- The gradient of the queries of a tile. -/
theorem tileQ_eq (b : Fin 2) (r : Fin 28) (y : Fin 768) (d : Fin 576) :
    tileQ m c b y d r = dq (AK m c) b (rowOf r y) d := by
  unfold tileQ dq
  exact Finset.sum_congr rfl fun j _ => (mul_comm _ _).trans (congrArg₂ (· * ·) (grad_eq m c hg hg' b r j y) (bT_eq m c b j d))

/-- The gradient of the latents is the sum over the tiles. -/
theorem tileC_sum (b : Fin 2) (j : Fin 896) (d : Fin 512) : (∑ r : Fin 28, tileC m c b j d r) = dc (AK m c) b j d := by
  have h : ∀ r : Fin 28, tileC m c b j d r
      = (∑ y : Fin 768, grad (AK m c) b (tokOf (rowOf r y)) (headOf (rowOf r y)) j
          * ((AK m c).q b (tokOf (rowOf r y)) (headOf (rowOf r y)) ⟨d.val, by omega⟩ * (AK m c).qs b (tokOf (rowOf r y)) (headOf (rowOf r y))))
        + ∑ y : Fin 768, prob (AK m c) b (tokOf (rowOf r y)) (headOf (rowOf r y)) j
          * ((AK m c).g b (tokOf (rowOf r y)) (headOf (rowOf r y)) d * (AK m c).gs b (tokOf (rowOf r y))) := fun r =>
    (dcB_eq _ _ _ _ _ r.val j d).trans (congrArg₂ (· + ·)
      (Finset.sum_congr rfl fun y _ => congrArg₂ (· * ·) (grad_eq m c hg hg' b r j y) (congrArg₂ (· * ·) (q_eq m c b r y _) (qs_eq m c b r y)))
      (Finset.sum_congr rfl fun y _ => congrArg₂ (· * ·) (prob_eq m c b r j y) (congrArg₂ (· * ·) (g_eq m c b r y d) (gs_eq m c b r y))))
  refine (Finset.sum_congr rfl fun r _ => h r).trans (Finset.sum_add_distrib.trans ?_)
  exact congrArg₂ (· + ·)
    (sum_tiles fun x => grad (AK m c) b (tokOf x) (headOf x) j * ((AK m c).q b (tokOf x) (headOf x) ⟨d.val, by omega⟩ * (AK m c).qs b (tokOf x) (headOf x)))
    (sum_tiles fun x => prob (AK m c) b (tokOf x) (headOf x) j * ((AK m c).g b (tokOf x) (headOf x) d * (AK m c).gs b (tokOf x)))

/-- The gradient of the positional keys is the sum over the tiles. -/
theorem tileR_sum (b : Fin 2) (j : Fin 896) (e : Fin 64) : (∑ r : Fin 28, tileR m c b j e r) = dr (AK m c) b j e := by
  have h : ∀ r : Fin 28, tileR m c b j e r
      = ∑ y : Fin 768, grad (AK m c) b (tokOf (rowOf r y)) (headOf (rowOf r y)) j
          * ((AK m c).q b (tokOf (rowOf r y)) (headOf (rowOf r y)) ⟨512 + e.val, by omega⟩ * (AK m c).qs b (tokOf (rowOf r y)) (headOf (rowOf r y))) := fun r =>
    (drB_eq _ _ _ _ _ r.val j e).trans
      (Finset.sum_congr rfl fun y _ => congrArg₂ (· * ·) (grad_eq m c hg hg' b r j y) (congrArg₂ (· * ·) (q_eq m c b r y _) (qs_eq m c b r y)))
  refine (Finset.sum_congr rfl fun r _ => h r).trans ?_
  unfold dr dk
  exact sum_tiles fun x : Fin 21504 => grad (AK m c) b (tokOf x) (headOf x) j * ((AK m c).q b (tokOf x) (headOf x) ⟨512 + e.val, by omega⟩ * (AK m c).qs b (tokOf x) (headOf x))

end Cert.KernelIdeal.Value

end
-- ==== Proof.KernelValue.lean ====
/-
  The three arrays the kernel leaves, element by element: the problem's gradients.
-/
module

public import proofs.«01_k».proof.Proof.Tile
public import proofs.«01_k».proof.Proof.Gen.KernelIdeal.Value

@[expose] public section

set_option maxRecDepth 16384

noncomputable section

open scoped BigOperators

namespace Cert.KernelIdeal.Value

open Idealize.ShloMosaic Idealize.ShloMosaic.TcCoe
open Idealize.SL.Sem Cert.Maths Cert.KernelIdeal Cert.KernelIdeal.Gen

variable (m : (ℓ : Loc nD τ sig) → Buf (Elt Ideal) ℓ) (c : Dev nD)

/-- The swept state at a point, by the point's number. -/
theorem sweep_at (b : Fin 2) (r : Fin 28) (n : ℕ) (hn : n < cfg0.N) (h : n = 28 * b.val + r.val) (h') :
    Pipeline.accAt (fun n h => stAt0 m c n h junk0) (stAt0 m c) 0 n h' = outsAt0 m c (point b r).val (point b r).isLt := by
  subst h
  exact (outsAt0_sweep m c _ hn).symm

variable (hg : ∀ b i, 0 ≤ (AK m c).gs b i) (hg' : ∀ b i, (AK m c).gs b i ≠ ⊤)
include hg hg'

/-- The first result is the gradient of the queries. -/
theorem G7_apply (b : Fin 2) (x : Fin 21504) (e : Fin 576) : G7 m c (ix3 b x e) = dq (AK m c) b x e := by
  have hb := b.isLt
  have hx := x.isLt
  have he := e.isLt
  have hr : x.val / 768 < 28 := by omega
  have hp : pt7Of (ix3 b x e) = 28 * b.val + (⟨x.val / 768, hr⟩ : Fin 28).val := by
    show 28 * (b.val / 1 - 0) + 1 * (x.val / 768 - 0) + 1 * (e.val / 576 - 0) = 28 * b.val + x.val / 768
    omega
  have hN : pt7Of (ix3 b x e) < cfg0.N := lt_of_eq_of_lt hp (point b ⟨x.val / 768, hr⟩).isLt
  have hl : loc7Of (ix3 b x e) = ix3 0 (⟨x.val % 768, Nat.mod_lt _ (by decide)⟩ : Fin 768) e := by
    funext a
    fin_cases a
    · exact Fin.ext (Nat.mod_one _)
    · rfl
    · exact Fin.ext (Nat.mod_eq_of_lt he)
  refine (dif_pos hN).trans ?_
  refine (congrArg₂ (fun (o : Vec Ideal S1x768x576 .bf16 × Vec Ideal S1x896x512 .f32 × Vec Ideal S1x896x64 .f32 × Vec Ideal S896x576 .bf16 × Vec Ideal S576x896 .bf16) (l : S1x768x576.Idx) => o.1 l)
    (sweep_at m c b ⟨x.val / 768, hr⟩ _ hN hp _) hl).trans ?_
  refine ((held m c b (x.val / 768) hr).2.2.2.2 _ e).trans ((tileQ_eq m c hg hg' b ⟨x.val / 768, hr⟩ _ e).trans ?_)
  exact congrArg (fun x => dq (AK m c) b x e) (Fin.ext (Nat.div_add_mod x.val 768))

/-- The second result is the gradient of the latents. -/
theorem G8_apply (b : Fin 2) (j : Fin 896) (d : Fin 512) : G8 m c (ix3 b j d) = dc (AK m c) b j d := by
  have hb := b.isLt
  have hj := j.isLt
  have hd := d.isLt
  have hp : pt8Of (ix3 b j d) = 28 * b.val + (⟨27, by decide⟩ : Fin 28).val := by
    show 28 * (1 * (b.val / 1 - 0) + 1 * (j.val / 896 - 0) + 1 * (d.val / 512 - 0)) + 27 = 28 * b.val + 27
    omega
  have hN : pt8Of (ix3 b j d) < cfg0.N := lt_of_eq_of_lt hp (point b ⟨27, by decide⟩).isLt
  have hl : loc8Of (ix3 b j d) = ix3 0 j d := by
    funext a
    fin_cases a
    · exact Fin.ext (Nat.mod_one _)
    · exact Fin.ext (Nat.mod_eq_of_lt hj)
    · exact Fin.ext (Nat.mod_eq_of_lt hd)
  refine (dif_pos hN).trans ?_
  refine (congrArg₂ (fun (o : Vec Ideal S1x768x576 .bf16 × Vec Ideal S1x896x512 .f32 × Vec Ideal S1x896x64 .f32 × Vec Ideal S896x576 .bf16 × Vec Ideal S576x896 .bf16) (l : S1x896x512.Idx) => o.2.1 l)
    (sweep_at m c b ⟨27, by decide⟩ _ hN hp _) hl).trans ?_
  exact ((held m c b 27 (by decide)).2.2.1 j d).trans (tileC_sum m c hg hg' b j d)

/-- The third result is the gradient of the positional keys. -/
theorem G9_apply (b : Fin 2) (j : Fin 896) (e : Fin 64) : G9 m c (ix3 b j e) = dr (AK m c) b j e := by
  have hb := b.isLt
  have hj := j.isLt
  have he := e.isLt
  have hp : pt9Of (ix3 b j e) = 28 * b.val + (⟨27, by decide⟩ : Fin 28).val := by
    show 28 * (1 * (b.val / 1 - 0) + 1 * (j.val / 896 - 0) + 1 * (e.val / 64 - 0)) + 27 = 28 * b.val + 27
    omega
  have hN : pt9Of (ix3 b j e) < cfg0.N := lt_of_eq_of_lt hp (point b ⟨27, by decide⟩).isLt
  have hl : loc9Of (ix3 b j e) = ix3 0 j e := by
    funext a
    fin_cases a
    · exact Fin.ext (Nat.mod_one _)
    · exact Fin.ext (Nat.mod_eq_of_lt hj)
    · exact Fin.ext (Nat.mod_eq_of_lt he)
  refine (dif_pos hN).trans ?_
  refine (congrArg₂ (fun (o : Vec Ideal S1x768x576 .bf16 × Vec Ideal S1x896x512 .f32 × Vec Ideal S1x896x64 .f32 × Vec Ideal S896x576 .bf16 × Vec Ideal S576x896 .bf16) (l : S1x896x64.Idx) => o.2.2.1 l)
    (sweep_at m c b ⟨27, by decide⟩ _ hN hp _) hl).trans ?_
  exact ((held m c b 27 (by decide)).2.2.2.1 j e).trans (tileR_sum m c hg hg' b j e)

end Cert.KernelIdeal.Value

end
-- ==== Proof.RefPays.lean ====
/-
  The reference's three results, read element by element: each is the formula of `Maths` at the arrays of the problem.
-/
module

public import proofs.«01_k».proof.Proof.Gen.ReferenceIdeal.Value
public import Idealize.ShloMosaic.Lib.Pointwise
public import proofs.«01_k».proof.Proof.Maths

@[expose] public section

noncomputable section

namespace Cert.ReferenceIdeal.Value

open Idealize.ShloMosaic Idealize.ShloMosaic.TcCoe Idealize.SL.Sem
open Cert.ReferenceIdeal Cert.ReferenceIdeal.Gen
set_option maxRecDepth 16384

open Cert.Maths

/-- The word comparison of two small numbers. -/
theorem select_le {α : Type} {j i : ℕ} (hj : j < 2 ^ 31) (hi : i < 2 ^ 31) (a b : α) :
    Scalar.select (IntOp.cmpi .sle (BitVec.ofNat 32 j) (BitVec.ofNat 32 i)) a b = if j ≤ i then a else b := by
  have h : (BitVec.ofNat 32 j).sle (BitVec.ofNat 32 i) = decide (j ≤ i) := by
    rw [BitVec.sle_eq_decide, BitVec.toInt_ofNat', BitVec.toInt_ofNat', Int.bmod_eq_of_le (by omega) (by omega),
      Int.bmod_eq_of_le (by omega) (by omega)]
    simp
  show (if BitVec.ofBool ((BitVec.ofNat 32 j).sle (BitVec.ofNat 32 i)) = 1 then a else b) = _
  rw [h]
  by_cases hji : j ≤ i <;> simp [hji]

/-- The named softmax scale is the problem's scale. -/
theorem scale_value : Named.named (F := Ideal) κ "scale" (φ := .f32) 0x3D93CD3A#32 = scale :=
  IdealRules.named_const.ideal_named_scalar _ _ _ _ rfl

/-- The probabilities. -/
theorem pay9_apply (v1 : FVec Ideal S2x896x24 .f32) (v6 : FVec Ideal S2x896x24 .f32) (v16 : FVec Ideal S2x896x576 .bf16) (v17 : FVec Ideal S2x896x24x576 .bf16) (b : Fin 2) (i : Fin 896) (h : Fin 24) (j : Fin 896) :
    k0_pay9 (F := Ideal) v1 v6 v16 v17 (ix4 b i h j)
      = if j.val ≤ i.val then Ideal.exp (scale * ((∑ d : Fin 576, v17 (ix4 b i h d) * v16 (ix3 b j d)) * v1 (ix3 b i h)) - v6 (ix3 b i h)) else 0 := by
  pointwise [k0_pay9]
  exact (select_le (by omega) (by omega) _ _).trans (by rw [scale_value])

/-- The gradients of the scores, a row being a token and a head. -/
theorem pay10_apply (v1 : FVec Ideal S2x896x24 .f32) (v5 : FVec Ideal S2x896x24x512 .bf16) (v6 : FVec Ideal S2x896x24 .f32) (v8 : FVec Ideal S2x896 .f32) (v15 : FVec Ideal S2x896x512 .bf16) (v16 : FVec Ideal S2x896x576 .bf16) (v17 : FVec Ideal S2x896x24x576 .bf16) (v22 : FVec Ideal S2x896x24x512 .bf16) (v30 : FVec Ideal S2x896x24x512 .f32) (b : Fin 2) (x : Fin 21504) (j : Fin 896) :
    k0_pay10 (F := Ideal) v1 v5 v6 v8 v15 v16 v17 v22 v30 (ix3 b x j)
      = scale * (k0_pay9 (F := Ideal) v1 v6 v16 v17 (ix4 b (tokOf x) (headOf x) j)
        * ((∑ d : Fin 512, v22 (ix4 b (tokOf x) (headOf x) d) * v15 (ix3 b j d)) * v8 (ix2 b (tokOf x))
          - ∑ d : Fin 512, v30 (ix4 b (tokOf x) (headOf x) d) * v5 (ix4 b (tokOf x) (headOf x) d))) := by
  pointwise [k0_pay10]
  exact congrArg (· * _) scale_value

/-- The gradient of the keys. -/
theorem pay11_apply (v1 : FVec Ideal S2x896x24 .f32) (v5 : FVec Ideal S2x896x24x512 .bf16) (v6 : FVec Ideal S2x896x24 .f32) (v8 : FVec Ideal S2x896 .f32) (v15 : FVec Ideal S2x896x512 .bf16) (v16 : FVec Ideal S2x896x576 .bf16) (v17 : FVec Ideal S2x896x24x576 .bf16) (v21 : FVec Ideal S2x896x24x576 .bf16) (v22 : FVec Ideal S2x896x24x512 .bf16) (v30 : FVec Ideal S2x896x24x512 .f32) (b : Fin 2) (j : Fin 896) (e : Fin 576) :
    k0_pay11 (F := Ideal) v1 v5 v6 v8 v15 v16 v17 v21 v22 v30 (ix3 b j e)
      = ∑ x : Fin 21504, k0_pay10 (F := Ideal) v1 v5 v6 v8 v15 v16 v17 v22 v30 (ix3 b x j) * v21 (ix4 b (tokOf x) (headOf x) e) := by
  pointwise [k0_pay11]

/-- The gradient of the queries. -/
theorem pay12_apply (v1 : FVec Ideal S2x896x24 .f32) (v5 : FVec Ideal S2x896x24x512 .bf16) (v6 : FVec Ideal S2x896x24 .f32) (v8 : FVec Ideal S2x896 .f32) (v15 : FVec Ideal S2x896x512 .bf16) (v16 : FVec Ideal S2x896x576 .bf16) (v17 : FVec Ideal S2x896x24x576 .bf16) (v22 : FVec Ideal S2x896x24x512 .bf16) (v30 : FVec Ideal S2x896x24x512 .f32) (b : Fin 2) (x : Fin 21504) (e : Fin 576) :
    k0_pay12 (F := Ideal) v1 v5 v6 v8 v15 v16 v17 v22 v30 (ix3 b x e)
      = ∑ j : Fin 896, k0_pay10 (F := Ideal) v1 v5 v6 v8 v15 v16 v17 v22 v30 (ix3 b x j) * v16 (ix3 b j e) := by
  pointwise [k0_pay12]

/-- The gradient of the latents as a sum of two products. -/
def sumC (P : FVec Ideal S2x896x24x896 .f32) (V : FVec Ideal S2x896x24x512 .bf16) (W : FVec Ideal S2x896x576 .f32) : FVec Ideal S2x896x512 .f32 :=
  addf (extractStridedSlice S2x896x512 ![0, 0, 0] W slices_S2x896x576_o0_0_0_S2x896x512)
    (matmul dot_S2x21504x896_S2x21504x512_S2x896x512_1_1_2_2_0_0 none
      (shapeCast S2x21504x896 (truncf .bf16 P bitsLt_bf16_f32) shapeCasts_S2x896x24x896_S2x21504x896)
      (shapeCast S2x21504x512 V shapeCasts_S2x896x24x512_S2x21504x512) (constant S2x896x512 .f32 0x00000000#32))

/-- The gradient of the latents, at an index. -/
theorem sumC_apply (P : FVec Ideal S2x896x24x896 .f32) (V : FVec Ideal S2x896x24x512 .bf16) (W : FVec Ideal S2x896x576 .f32) (b : Fin 2) (j : Fin 896) (d : Fin 512) :
    sumC P V W (ix3 b j d)
      = W (ix3 b j ⟨d.val, by omega⟩) + ∑ x : Fin 21504, P (ix4 b (tokOf x) (headOf x) j) * V (ix4 b (tokOf x) (headOf x) d) := by
  pointwise [sumC]

/-- The gradient of the latents is the sum of its two parts. -/
theorem pay13_eq (v1 : FVec Ideal S2x896x24 .f32) (v5 : FVec Ideal S2x896x24x512 .bf16) (v6 : FVec Ideal S2x896x24 .f32) (v8 : FVec Ideal S2x896 .f32) (v15 : FVec Ideal S2x896x512 .bf16) (v16 : FVec Ideal S2x896x576 .bf16) (v17 : FVec Ideal S2x896x24x576 .bf16) (v21 : FVec Ideal S2x896x24x576 .bf16) (v22 : FVec Ideal S2x896x24x512 .bf16) (v26 : FVec Ideal S2x896x24x512 .bf16) (v30 : FVec Ideal S2x896x24x512 .f32) :
    k0_pay13 (F := Ideal) v1 v5 v6 v8 v15 v16 v17 v21 v22 v26 v30
      = sumC (k0_pay9 (F := Ideal) v1 v6 v16 v17) v26 (k0_pay11 (F := Ideal) v1 v5 v6 v8 v15 v16 v17 v21 v22 v30) := by
  unfold k0_pay13 sumC
  rfl

/-- The last columns of the gradient of the keys. -/
theorem pay1_apply (v67 : FVec Ideal S2x896x576 .f32) (b : Fin 2) (j : Fin 896) (e : Fin 64) :
    k0_pay1 (F := Ideal) v67 (ix3 b j e)
      = v67 (ix3 b j ⟨512 + e.val, by omega⟩) := by
  pointwise [k0_pay1]

/-- The scaled queries. -/
theorem pay5_apply (a : Vec Ideal S2x896x24x576 .fp8e4m3) (c : Vec Ideal S2x896x24 .f32) (b : Fin 2) (i : Fin 896) (h : Fin 24) (d : Fin 576) :
    k0_pay5 (F := Ideal) a c (ix4 b i h d)
      = a (ix4 b i h d) * c (ix3 b i h) := by
  pointwise [k0_pay5, k0_pay4]

/-- The scaled output gradients. -/
theorem pay7_apply (a : Vec Ideal S2x896x24x512 .fp8e5m2) (c : Vec Ideal S2x896 .f32) (b : Fin 2) (i : Fin 896) (h : Fin 24) (d : Fin 512) :
    k0_pay7 (F := Ideal) a c (ix4 b i h d)
      = a (ix4 b i h d) * c (ix2 b i) := by
  pointwise [k0_pay7, k0_pay6]

/-- The scaled output gradients, widened. -/
theorem pay8_apply (a : Vec Ideal S2x896x24x512 .fp8e5m2) (c : Vec Ideal S2x896 .f32) (b : Fin 2) (i : Fin 896) (h : Fin 24) (d : Fin 512) :
    k0_pay8 (F := Ideal) a c (ix4 b i h d)
      = a (ix4 b i h d) * c (ix2 b i) := by
  pointwise [k0_pay8, k0_pay7, k0_pay6]

/-- The scaled latents. -/
theorem pay2_apply (a : Vec Ideal S2x896x512 .fp8e4m3) (c : Vec Ideal S2x896x8 .f32) (b : Fin 2) (j : Fin 896) (d : Fin 512) :
    k0_pay2 (F := Ideal) a c (ix3 b j d)
      = a (ix3 b j d) * c (ix3 b j ⟨d.val / 64, by omega⟩) := by
  pointwise [k0_pay2]

/-- The keys: scaled latents, then positional columns. -/
theorem pay3_apply (a : Vec Ideal S2x896x512 .fp8e4m3) (c : Vec Ideal S2x896x8 .f32) (r : Vec Ideal S2x896x64 .bf16) (b : Fin 2) (j : Fin 896) (d : Fin 576) :
    k0_pay3 (F := Ideal) a c r (ix3 b j d)
      = if h : d.val < 512 then k0_pay2 (F := Ideal) a c (ix3 b j ⟨d.val, h⟩) else r (ix3 b j ⟨d.val - 512, by omega⟩) := by
  pointwise [k0_pay3]

end Cert.ReferenceIdeal.Value

end
-- ==== Proof.RefValue.lean ====
/-
  The reference's three results are the formulas of `Maths` at its arguments.
-/
module

public import proofs.«01_k».proof.Proof.RefPays

@[expose] public section

noncomputable section

namespace Cert.ReferenceIdeal.Value

open Idealize.ShloMosaic Idealize.ShloMosaic.TcCoe Idealize.SL.Sem
open Cert.ReferenceIdeal Cert.ReferenceIdeal.Gen
set_option maxRecDepth 16384

open Cert.Maths

variable (a0 : Vec Ideal S2x896x24x576 .fp8e4m3) (a1 : Vec Ideal S2x896x24 .f32) (a2 : Vec Ideal S2x896x512 .fp8e4m3)
  (a3 : Vec Ideal S2x896x8 .f32) (a4 : Vec Ideal S2x896x64 .bf16) (a5 : Vec Ideal S2x896x24x512 .bf16)
  (a6 : Vec Ideal S2x896x24 .f32) (a7 : Vec Ideal S2x896x24x512 .fp8e5m2) (a8 : Vec Ideal S2x896 .f32)

/-- The problem's arrays. -/
abbrev AR : Args := argsOf a0 a1 a2 a3 a4 a5 a6 a7 a8

/-- The scaled latents, as a function of the arguments that they use. -/
theorem pay14_eq : k0_pay14 (F := Ideal) a0 a1 a2 a3 a4 a5 a6 a7 a8 = k0_pay2 a2 a3 := by
  unfold k0_pay14
  rw [View.ld_unit_zero (S := S2x896x512) hz2 _ a2, View.ld_unit_zero (S := S2x896x8) hz3 _ a3]

/-- The keys, as a function of the arguments that they use. -/
theorem pay15_eq : k0_pay15 (F := Ideal) a0 a1 a2 a3 a4 a5 a6 a7 a8 = k0_pay3 a2 a3 a4 := by
  unfold k0_pay15
  rw [View.ld_unit_zero (S := S2x896x512) hz2 _ a2, View.ld_unit_zero (S := S2x896x8) hz3 _ a3, View.ld_unit_zero (S := S2x896x64) hz4 _ a4]

/-- The widened queries, as a function of the argument that they use. -/
theorem pay16_eq : k0_pay16 (F := Ideal) a0 a1 a2 a3 a4 a5 a6 a7 a8 = k0_pay4 a0 := by
  unfold k0_pay16
  rw [View.ld_unit_zero (S := S2x896x24x576) hz0 _ a0]

/-- The scaled queries, as a function of the arguments that they use. -/
theorem pay17_eq : k0_pay17 (F := Ideal) a0 a1 a2 a3 a4 a5 a6 a7 a8 = k0_pay5 a0 a1 := by
  unfold k0_pay17
  rw [View.ld_unit_zero (S := S2x896x24x576) hz0 _ a0, View.ld_unit_zero (S := S2x896x24) hz1 _ a1]

/-- The widened gradient of the output, as a function of the argument that it uses. -/
theorem pay18_eq : k0_pay18 (F := Ideal) a0 a1 a2 a3 a4 a5 a6 a7 a8 = k0_pay6 a7 := by
  unfold k0_pay18
  rw [View.ld_unit_zero (S := S2x896x24x512) hz7 _ a7]

/-- The scaled gradient of the output, as a function of the arguments that it uses. -/
theorem pay19_eq : k0_pay19 (F := Ideal) a0 a1 a2 a3 a4 a5 a6 a7 a8 = k0_pay8 a7 a8 := by
  unfold k0_pay19
  rw [View.ld_unit_zero (S := S2x896x24x512) hz7 _ a7, View.ld_unit_zero (S := S2x896) hz8 _ a8]

/-- The keys. -/
theorem key_apply (b : Fin 2) (j : Fin 896) (d : Fin 576) : k0_pay3 (F := Ideal) a2 a3 a4 (ix3 b j d) = (AR a0 a1 a2 a3 a4 a5 a6 a7 a8).k b j d := by
  rw [pay3_apply]
  show _ = dite (d.val < 512) (fun h => a2 (ix3 b j ⟨d.val, h⟩) * a3 (ix3 b j ⟨d.val / 64, by omega⟩)) (fun h => a4 (ix3 b j ⟨d.val - 512, by omega⟩))
  by_cases h : d.val < 512
  · rw [dif_pos h, pay2_apply]; rw [dif_pos h]
  · rw [dif_neg h]; rw [dif_neg h]

/-- The latents are the keys' first columns. -/
theorem lat_apply (b : Fin 2) (j : Fin 896) (d : Fin 512) :
    k0_pay2 (F := Ideal) a2 a3 (ix3 b j d) = (AR a0 a1 a2 a3 a4 a5 a6 a7 a8).k b j ⟨d.val, by omega⟩ := by
  rw [pay2_apply]
  show _ = dite (d.val < 512) (fun h => a2 (ix3 b j ⟨d.val, h⟩) * a3 (ix3 b j ⟨d.val / 64, by omega⟩)) (fun h => a4 (ix3 b j ⟨d.val - 512, by omega⟩))
  rw [dif_pos d.isLt]

/-- The probabilities. -/
theorem prob_apply (b : Fin 2) (i : Fin 896) (h : Fin 24) (j : Fin 896) :
    k0_pay9 (F := Ideal) a1 a6 (k0_pay3 a2 a3 a4) (k0_pay4 a0) (ix4 b i h j) = prob (AR a0 a1 a2 a3 a4 a5 a6 a7 a8) b i h j := by
  rw [pay9_apply]
  refine if_congr Iff.rfl ?_ rfl
  refine congrArg (fun z => Ideal.exp (scale * (z * a1 (ix3 b i h)) - a6 (ix3 b i h))) ?_
  exact Finset.sum_congr rfl fun d _ => congrArg (a0 (ix4 b i h d) * ·) (key_apply a0 a1 a2 a3 a4 a5 a6 a7 a8 b j d)

/-- The gradients of the scores. -/
theorem grad_apply (b : Fin 2) (x : Fin 21504) (j : Fin 896) :
    k0_pay10 (F := Ideal) a1 a5 a6 a8 (k0_pay2 a2 a3) (k0_pay3 a2 a3 a4) (k0_pay4 a0) (k0_pay6 a7) (k0_pay8 a7 a8) (ix3 b x j)
      = grad (AR a0 a1 a2 a3 a4 a5 a6 a7 a8) b (tokOf x) (headOf x) j := by
  rw [pay10_apply, prob_apply]
  refine congrArg (scale * ·) (congrArg (_ * ·) (congrArg₂ (· - ·) (congrArg (· * a8 (ix2 b (tokOf x))) ?_) ?_))
  · exact Finset.sum_congr rfl fun d _ => congrArg (a7 (ix4 b (tokOf x) (headOf x) d) * ·) (lat_apply a0 a1 a2 a3 a4 a5 a6 a7 a8 b j d)
  · exact Finset.sum_congr rfl fun d _ => congrArg (· * a5 (ix4 b (tokOf x) (headOf x) d)) (pay8_apply a7 a8 b (tokOf x) (headOf x) d)

/-- The first result. -/
theorem G9_apply (b : Fin 2) (x : Fin 21504) (e : Fin 576) : G9 (F := Ideal) a0 a1 a2 a3 a4 a5 a6 a7 a8 (ix3 b x e) = dq (AR a0 a1 a2 a3 a4 a5 a6 a7 a8) b x e := by
  unfold G9
  rw [pay14_eq, pay15_eq, pay16_eq, pay18_eq, pay19_eq, pay12_apply]
  exact Finset.sum_congr rfl fun j _ => congrArg₂ (· * ·) (grad_apply a0 a1 a2 a3 a4 a5 a6 a7 a8 b x j) (key_apply a0 a1 a2 a3 a4 a5 a6 a7 a8 b j e)

/-- The gradient of the keys. -/
theorem dk_apply (b : Fin 2) (j : Fin 896) (e : Fin 576) :
    k0_pay11 (F := Ideal) a1 a5 a6 a8 (k0_pay2 a2 a3) (k0_pay3 a2 a3 a4) (k0_pay4 a0) (k0_pay5 a0 a1) (k0_pay6 a7) (k0_pay8 a7 a8) (ix3 b j e)
      = dk (AR a0 a1 a2 a3 a4 a5 a6 a7 a8) b j e := by
  rw [pay11_apply]
  exact Finset.sum_congr rfl fun x _ => congrArg₂ (· * ·) (grad_apply a0 a1 a2 a3 a4 a5 a6 a7 a8 b x j) (pay5_apply a0 a1 b (tokOf x) (headOf x) e)

/-- The second result. -/
theorem G10_apply (b : Fin 2) (j : Fin 896) (d : Fin 512) : G10 (F := Ideal) a0 a1 a2 a3 a4 a5 a6 a7 a8 (ix3 b j d) = dc (AR a0 a1 a2 a3 a4 a5 a6 a7 a8) b j d := by
  unfold G10
  rw [pay14_eq, pay15_eq, pay16_eq, pay17_eq, pay18_eq, pay19_eq, pay13_eq, sumC_apply, dk_apply]
  refine congrArg (_ + ·) (Finset.sum_congr rfl fun x _ => congrArg₂ (· * ·) ?_ ?_)
  · exact prob_apply a0 a1 a2 a3 a4 a5 a6 a7 a8 b (tokOf x) (headOf x) j
  · exact pay7_apply a7 a8 b (tokOf x) (headOf x) d

/-- The third result. -/
theorem G11_apply (b : Fin 2) (j : Fin 896) (e : Fin 64) : G11 (F := Ideal) a0 a1 a2 a3 a4 a5 a6 a7 a8 (ix3 b j e) = dr (AR a0 a1 a2 a3 a4 a5 a6 a7 a8) b j e := by
  unfold G11
  rw [pay14_eq, pay15_eq, pay16_eq, pay17_eq, pay18_eq, pay19_eq, pay1_apply, dk_apply]
  rfl

end Cert.ReferenceIdeal.Value

end
-- ==== Proof.Equal.lean ====
/-
  The claims' last steps: what the precondition says of the scales of the output's gradient, and the kernel's three arrays
  equal to the reference's.
-/
module

public import proofs.«01_k».proof.Defs
public import proofs.«01_k».proof.Proof.KernelValue
public import proofs.«01_k».proof.Proof.RefValue
public import proofs.«01_k».proof.Proof.Gen.Pre_scale_nonneg

@[expose] public section

set_option maxRecDepth 16384

noncomputable section

open scoped BigOperators

namespace Cert.Equal

open Idealize.ShloMosaic Idealize.ShloMosaic.TcCoe
open Idealize.SL.Sem Cert.Maths

/-- A bit that is the conjunction of two comparisons is set only if both hold. -/
theorem andi_ofBool (p q : Prop) [Decidable p] [Decidable q]
    (h : IntOp.andi (BitVec.ofBool (decide p)) (BitVec.ofBool (decide q)) = 1#1) : p ∧ q := by
  by_cases hp : p <;> by_cases hq : q <;> simp [hp, hq] at h ⊢ <;> exact absurd h (by decide)

/-- The precondition: every scale is at least zero and is finite. -/
theorem scale_range (m : (ℓ : Loc Cert.KernelIdeal.nD Cert.KernelIdeal.τ Cert.KernelIdeal.sig) → Buf (Elt Ideal) ℓ)
    (h : @Cert.Pre_KernelIdeal_scale_nonneg Cert.Pre_scale_nonneg.Gen.facts m) (c : Dev Cert.KernelIdeal.nD) (b : Fin 2) (i : Fin 896) :
    0 ≤ (Cert.KernelIdeal.Value.AK m c).gs b i ∧ (Cert.KernelIdeal.Value.AK m c).gs b i < ⊤ := by
  have h1 := congrFun (h c) (ix2 b i)
  revert h1
  pointwise [Cert.Pre_scale_nonneg.fn]
  intro h1
  obtain ⟨h2, h3⟩ := andi_ofBool _ _ h1
  exact ⟨h2, lt_of_lt_of_le h3 le_top⟩

variable (m : (ℓ : Loc Cert.KernelIdeal.nD Cert.KernelIdeal.τ Cert.KernelIdeal.sig) → Buf (Elt Ideal) ℓ)
  (h : @Cert.Pre_KernelIdeal_scale_nonneg Cert.Pre_scale_nonneg.Gen.facts m) (c : Dev Cert.KernelIdeal.nD)
include h

/-- The gradient of the queries: the kernel's and the reference's. -/
theorem equal0 : Cert.KernelIdeal.Value.G7 m c = Cert.ReferenceIdeal.Value.G9 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext y
  obtain ⟨b, x, e, rfl⟩ : ∃ (b : Fin 2) (x : Fin 21504) (e : Fin 576), y = ix3 b x e := ⟨y 0, y 1, y 2, eq_ix3 y⟩
  exact (Cert.KernelIdeal.Value.G7_apply m c (fun b i => (scale_range m h c b i).1) (fun b i => (scale_range m h c b i).2.ne) b x e).trans
    (Cert.ReferenceIdeal.Value.G9_apply _ _ _ _ _ _ _ _ _ b x e).symm

/-- The gradient of the latents: the kernel's and the reference's. -/
theorem equal1 : Cert.KernelIdeal.Value.G8 m c = Cert.ReferenceIdeal.Value.G10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext y
  obtain ⟨b, x, e, rfl⟩ : ∃ (b : Fin 2) (x : Fin 896) (e : Fin 512), y = ix3 b x e := ⟨y 0, y 1, y 2, eq_ix3 y⟩
  exact (Cert.KernelIdeal.Value.G8_apply m c (fun b i => (scale_range m h c b i).1) (fun b i => (scale_range m h c b i).2.ne) b x e).trans
    (Cert.ReferenceIdeal.Value.G10_apply _ _ _ _ _ _ _ _ _ b x e).symm

/-- The gradient of the positional keys: the kernel's and the reference's. -/
theorem equal2 : Cert.KernelIdeal.Value.G9 m c = Cert.ReferenceIdeal.Value.G11 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext y
  obtain ⟨b, x, e, rfl⟩ : ∃ (b : Fin 2) (x : Fin 896) (e : Fin 64), y = ix3 b x e := ⟨y 0, y 1, y 2, eq_ix3 y⟩
  exact (Cert.KernelIdeal.Value.G9_apply m c (fun b i => (scale_range m h c b i).1) (fun b i => (scale_range m h c b i).2.ne) b x e).trans
    (Cert.ReferenceIdeal.Value.G11_apply _ _ _ _ _ _ _ _ _ b x e).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scale_nonneg
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The three named constants denote the real numbers that they stand for. -/
theorem preserves : Cert.preserves_Kernel_KernelIdeal :=
  ⟨IdealRules.named_const.statement Cert.KernelIdeal.κ "scale_log2e" .f32 _ _ rfl,
    IdealRules.named_const.statement Cert.KernelIdeal.κ "log2e" .f32 _ _ rfl,
    IdealRules.named_const.statement Cert.KernelIdeal.κ "scale" .f32 _ _ rfl⟩

/-- Both programs run, and where the scales of the output's gradient are at least zero and finite they end with equal results. -/
theorem algebraic : @Cert.algebraic_KernelIdeal_ReferenceIdeal_pre_scale_nonneg Cert.KernelIdeal.Gen.facts Cert.ReferenceIdeal.Gen.facts
    Cert.Pre_scale_nonneg.Gen.facts := by
  intro m g m' g' hpre hargs
  refine ⟨fun c => Cert.KernelIdeal.Value.G7 m c, fun c => Cert.KernelIdeal.Value.G8 m c, fun c => Cert.KernelIdeal.Value.G9 m c,
    Cert.KernelIdeal.Value.run m g, (θ_run Cert.ReferenceIdeal.defs _ _).mono (fun r hr c => ?_) (Cert.ReferenceIdeal.Value.run m' g')⟩
  obtain ⟨e0, e1, e2, e3, e4, e5, e6, e7, e8⟩ := hargs c
  obtain ⟨h0, h1, h2, hk⟩ := hr c
  rw [e0, e1, e2, e3, e4, e5, e6, e7, e8] at h0 h1 h2
  exact ⟨h0.trans (Cert.Equal.equal0 m hpre c).symm, h1.trans (Cert.Equal.equal1 m hpre c).symm, h2.trans (Cert.Equal.equal2 m hpre c).symm, hk⟩

/-- All five claims. -/
theorem claim : Cert.Claim := ⟨Cert.Kernel.Gen.facts, Cert.KernelIdeal.Gen.facts, Cert.ReferenceIdeal.Gen.facts, Cert.Pre_scale_nonneg.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
